-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2, 1024]⟩ ⟨2, ![64, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x1024 : Shape := ⟨2, ![2, 1024]⟩
abbrev S32x2x1024 : Shape := ⟨3, ![32, 2, 1024]⟩
abbrev S32 : Shape := ⟨1, ![32]⟩
abbrev S_ : Shape := ⟨0, ![]⟩
abbrev S64x2048 : Shape := ⟨2, ![64, 2048]⟩
abbrev S1x2x1024 : Shape := ⟨3, ![1, 2, 1024]⟩
abbrev S1 : Shape := ⟨1, ![1]⟩

abbrev nBuf : Space → Nat
  | .hbm => 8
  | .vmem => 12
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2x1024, .f32⟩
  | .local _ .vmem, ⟨0, _⟩ => ⟨S64x1024, .f32⟩
  | .local _ .vmem, ⟨1, _⟩ => ⟨S1024x2048, .f32⟩
  | .local _ .vmem, ⟨2, _⟩ => ⟨S2048x1024, .f32⟩
  | .local _ .vmem, ⟨3, _⟩ => ⟨S1024x2048, .f32⟩
  | .local _ .vmem, ⟨4, _⟩ => ⟨S2048x1024, .f32⟩
  | .local _ .vmem, ⟨5, _⟩ => ⟨S1024x2048, .f32⟩
  | .local _ .vmem, ⟨6, _⟩ => ⟨S2048x1024, .f32⟩
  | .local _ .vmem, ⟨7, _⟩ => ⟨S2x1024, .f32⟩
  | .local _ .vmem, ⟨8, _⟩ => ⟨S64x1024, .bf16⟩
  | .local _ .vmem, ⟨9, _⟩ => ⟨S32x2x1024, .bf16⟩
  | .local _ .vmem, ⟨10, _⟩ => ⟨S2x1024, .bf16⟩
  | .local _ .vmem, ⟨11, _⟩ => ⟨S64x1024, .bf16⟩
  | _, _ => ⟨S64x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 137 → Bool
  | ⟨i, _⟩ => dmaSemScopedAt i

abbrev sig : RefSig :=
  (ofTc nBuf bufTy 1 137 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_134 : BitVec 32 := 2#32
  let v146 : BitVec 32 := Scalar.muli v2 c2_i32_134
  let c0_i32_138 : BitVec 32 := 0#32
  ![v146.toNat, 0]
def k0_off2 (d0 : Dev nD) (c1_i32_139 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v150 : BitVec 32 := Scalar.addi v2 c1_i32_139
  let c32_i32_140 : BitVec 32 := 32#32
  let v151 : BitVec 32 := Scalar.remsi v150 c32_i32_140
  let c2_i32_141 : BitVec 32 := 2#32
  let v152 : BitVec 32 := Scalar.muli v151 c2_i32_141
  let c0_i32_149 : BitVec 32 := 0#32
  ![v152.toNat, 0]
def k0_dev32 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_139 : BitVec 32 := 1#32
  let v150 : BitVec 32 := Scalar.addi v2 c1_i32_139
  let c32_i32_140 : BitVec 32 := 32#32
  let v151 : BitVec 32 := Scalar.remsi v150 c32_i32_140
  let c1_i32_145 : BitVec 32 := 1#32
  let v153 : BitVec 32 := Scalar.muli v151 c1_i32_145
  let v154 : BitVec 32 := Scalar.addi c0_i32_146 v153
  v154.toNat
def k0_dev33 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_150 : BitVec 32 := 2#32
  let v162 : BitVec 32 := Scalar.addi v2 c2_i32_150
  let c32_i32_151 : BitVec 32 := 32#32
  let v163 : BitVec 32 := Scalar.remsi v162 c32_i32_151
  let c1_i32_156 : BitVec 32 := 1#32
  let v165 : BitVec 32 := Scalar.muli v163 c1_i32_156
  let v166 : BitVec 32 := Scalar.addi c0_i32_157 v165
  v166.toNat
def k0_dev34 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_161 : BitVec 32 := 3#32
  let v174 : BitVec 32 := Scalar.addi v2 c3_i32_161
  let c32_i32_162 : BitVec 32 := 32#32
  let v175 : BitVec 32 := Scalar.remsi v174 c32_i32_162
  let c1_i32_167 : BitVec 32 := 1#32
  let v177 : BitVec 32 := Scalar.muli v175 c1_i32_167
  let v178 : BitVec 32 := Scalar.addi c0_i32_168 v177
  v178.toNat
def k0_dev35 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_172 : BitVec 32 := 4#32
  let v186 : BitVec 32 := Scalar.addi v2 c4_i32_172
  let c32_i32_173 : BitVec 32 := 32#32
  let v187 : BitVec 32 := Scalar.remsi v186 c32_i32_173
  let c1_i32_178 : BitVec 32 := 1#32
  let v189 : BitVec 32 := Scalar.muli v187 c1_i32_178
  let v190 : BitVec 32 := Scalar.addi c0_i32_179 v189
  v190.toNat
def k0_dev36 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_183 : BitVec 32 := 5#32
  let v198 : BitVec 32 := Scalar.addi v2 c5_i32_183
  let c32_i32_184 : BitVec 32 := 32#32
  let v199 : BitVec 32 := Scalar.remsi v198 c32_i32_184
  let c1_i32_189 : BitVec 32 := 1#32
  let v201 : BitVec 32 := Scalar.muli v199 c1_i32_189
  let v202 : BitVec 32 := Scalar.addi c0_i32_190 v201
  v202.toNat
def k0_dev37 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_194 : BitVec 32 := 6#32
  let v210 : BitVec 32 := Scalar.addi v2 c6_i32_194
  let c32_i32_195 : BitVec 32 := 32#32
  let v211 : BitVec 32 := Scalar.remsi v210 c32_i32_195
  let c1_i32_200 : BitVec 32 := 1#32
  let v213 : BitVec 32 := Scalar.muli v211 c1_i32_200
  let v214 : BitVec 32 := Scalar.addi c0_i32_201 v213
  v214.toNat
def k0_dev38 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_205 : BitVec 32 := 7#32
  let v222 : BitVec 32 := Scalar.addi v2 c7_i32_205
  let c32_i32_206 : BitVec 32 := 32#32
  let v223 : BitVec 32 := Scalar.remsi v222 c32_i32_206
  let c1_i32_211 : BitVec 32 := 1#32
  let v225 : BitVec 32 := Scalar.muli v223 c1_i32_211
  let v226 : BitVec 32 := Scalar.addi c0_i32_212 v225
  v226.toNat
def k0_dev39 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_216 : BitVec 32 := 8#32
  let v234 : BitVec 32 := Scalar.addi v2 c8_i32_216
  let c32_i32_217 : BitVec 32 := 32#32
  let v235 : BitVec 32 := Scalar.remsi v234 c32_i32_217
  let c1_i32_222 : BitVec 32 := 1#32
  let v237 : BitVec 32 := Scalar.muli v235 c1_i32_222
  let v238 : BitVec 32 := Scalar.addi c0_i32_223 v237
  v238.toNat
def k0_dev40 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_227 : BitVec 32 := 9#32
  let v246 : BitVec 32 := Scalar.addi v2 c9_i32_227
  let c32_i32_228 : BitVec 32 := 32#32
  let v247 : BitVec 32 := Scalar.remsi v246 c32_i32_228
  let c1_i32_233 : BitVec 32 := 1#32
  let v249 : BitVec 32 := Scalar.muli v247 c1_i32_233
  let v250 : BitVec 32 := Scalar.addi c0_i32_234 v249
  v250.toNat
def k0_dev41 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_238 : BitVec 32 := 10#32
  let v258 : BitVec 32 := Scalar.addi v2 c10_i32_238
  let c32_i32_239 : BitVec 32 := 32#32
  let v259 : BitVec 32 := Scalar.remsi v258 c32_i32_239
  let c1_i32_244 : BitVec 32 := 1#32
  let v261 : BitVec 32 := Scalar.muli v259 c1_i32_244
  let v262 : BitVec 32 := Scalar.addi c0_i32_245 v261
  v262.toNat
def k0_dev42 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_249 : BitVec 32 := 11#32
  let v270 : BitVec 32 := Scalar.addi v2 c11_i32_249
  let c32_i32_250 : BitVec 32 := 32#32
  let v271 : BitVec 32 := Scalar.remsi v270 c32_i32_250
  let c1_i32_255 : BitVec 32 := 1#32
  let v273 : BitVec 32 := Scalar.muli v271 c1_i32_255
  let v274 : BitVec 32 := Scalar.addi c0_i32_256 v273
  v274.toNat
def k0_dev43 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_260 : BitVec 32 := 12#32
  let v282 : BitVec 32 := Scalar.addi v2 c12_i32_260
  let c32_i32_261 : BitVec 32 := 32#32
  let v283 : BitVec 32 := Scalar.remsi v282 c32_i32_261
  let c1_i32_266 : BitVec 32 := 1#32
  let v285 : BitVec 32 := Scalar.muli v283 c1_i32_266
  let v286 : BitVec 32 := Scalar.addi c0_i32_267 v285
  v286.toNat
def k0_dev44 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_271 : BitVec 32 := 13#32
  let v294 : BitVec 32 := Scalar.addi v2 c13_i32_271
  let c32_i32_272 : BitVec 32 := 32#32
  let v295 : BitVec 32 := Scalar.remsi v294 c32_i32_272
  let c1_i32_277 : BitVec 32 := 1#32
  let v297 : BitVec 32 := Scalar.muli v295 c1_i32_277
  let v298 : BitVec 32 := Scalar.addi c0_i32_278 v297
  v298.toNat
def k0_dev45 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_282 : BitVec 32 := 14#32
  let v306 : BitVec 32 := Scalar.addi v2 c14_i32_282
  let c32_i32_283 : BitVec 32 := 32#32
  let v307 : BitVec 32 := Scalar.remsi v306 c32_i32_283
  let c1_i32_288 : BitVec 32 := 1#32
  let v309 : BitVec 32 := Scalar.muli v307 c1_i32_288
  let v310 : BitVec 32 := Scalar.addi c0_i32_289 v309
  v310.toNat
def k0_dev46 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_293 : BitVec 32 := 15#32
  let v318 : BitVec 32 := Scalar.addi v2 c15_i32_293
  let c32_i32_294 : BitVec 32 := 32#32
  let v319 : BitVec 32 := Scalar.remsi v318 c32_i32_294
  let c1_i32_299 : BitVec 32 := 1#32
  let v321 : BitVec 32 := Scalar.muli v319 c1_i32_299
  let v322 : BitVec 32 := Scalar.addi c0_i32_300 v321
  v322.toNat
def k0_dev47 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_304 : BitVec 32 := 16#32
  let v330 : BitVec 32 := Scalar.addi v2 c16_i32_304
  let c32_i32_305 : BitVec 32 := 32#32
  let v331 : BitVec 32 := Scalar.remsi v330 c32_i32_305
  let c1_i32_310 : BitVec 32 := 1#32
  let v333 : BitVec 32 := Scalar.muli v331 c1_i32_310
  let v334 : BitVec 32 := Scalar.addi c0_i32_311 v333
  v334.toNat
def k0_dev48 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_315 : BitVec 32 := 17#32
  let v342 : BitVec 32 := Scalar.addi v2 c17_i32_315
  let c32_i32_316 : BitVec 32 := 32#32
  let v343 : BitVec 32 := Scalar.remsi v342 c32_i32_316
  let c1_i32_321 : BitVec 32 := 1#32
  let v345 : BitVec 32 := Scalar.muli v343 c1_i32_321
  let v346 : BitVec 32 := Scalar.addi c0_i32_322 v345
  v346.toNat
def k0_dev49 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_326 : BitVec 32 := 18#32
  let v354 : BitVec 32 := Scalar.addi v2 c18_i32_326
  let c32_i32_327 : BitVec 32 := 32#32
  let v355 : BitVec 32 := Scalar.remsi v354 c32_i32_327
  let c1_i32_332 : BitVec 32 := 1#32
  let v357 : BitVec 32 := Scalar.muli v355 c1_i32_332
  let v358 : BitVec 32 := Scalar.addi c0_i32_333 v357
  v358.toNat
def k0_dev50 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_337 : BitVec 32 := 19#32
  let v366 : BitVec 32 := Scalar.addi v2 c19_i32_337
  let c32_i32_338 : BitVec 32 := 32#32
  let v367 : BitVec 32 := Scalar.remsi v366 c32_i32_338
  let c1_i32_343 : BitVec 32 := 1#32
  let v369 : BitVec 32 := Scalar.muli v367 c1_i32_343
  let v370 : BitVec 32 := Scalar.addi c0_i32_344 v369
  v370.toNat
def k0_dev51 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_348 : BitVec 32 := 20#32
  let v378 : BitVec 32 := Scalar.addi v2 c20_i32_348
  let c32_i32_349 : BitVec 32 := 32#32
  let v379 : BitVec 32 := Scalar.remsi v378 c32_i32_349
  let c1_i32_354 : BitVec 32 := 1#32
  let v381 : BitVec 32 := Scalar.muli v379 c1_i32_354
  let v382 : BitVec 32 := Scalar.addi c0_i32_355 v381
  v382.toNat
def k0_dev52 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_359 : BitVec 32 := 21#32
  let v390 : BitVec 32 := Scalar.addi v2 c21_i32_359
  let c32_i32_360 : BitVec 32 := 32#32
  let v391 : BitVec 32 := Scalar.remsi v390 c32_i32_360
  let c1_i32_365 : BitVec 32 := 1#32
  let v393 : BitVec 32 := Scalar.muli v391 c1_i32_365
  let v394 : BitVec 32 := Scalar.addi c0_i32_366 v393
  v394.toNat
def k0_dev53 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_370 : BitVec 32 := 22#32
  let v402 : BitVec 32 := Scalar.addi v2 c22_i32_370
  let c32_i32_371 : BitVec 32 := 32#32
  let v403 : BitVec 32 := Scalar.remsi v402 c32_i32_371
  let c1_i32_376 : BitVec 32 := 1#32
  let v405 : BitVec 32 := Scalar.muli v403 c1_i32_376
  let v406 : BitVec 32 := Scalar.addi c0_i32_377 v405
  v406.toNat
def k0_dev54 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_381 : BitVec 32 := 23#32
  let v414 : BitVec 32 := Scalar.addi v2 c23_i32_381
  let c32_i32_382 : BitVec 32 := 32#32
  let v415 : BitVec 32 := Scalar.remsi v414 c32_i32_382
  let c1_i32_387 : BitVec 32 := 1#32
  let v417 : BitVec 32 := Scalar.muli v415 c1_i32_387
  let v418 : BitVec 32 := Scalar.addi c0_i32_388 v417
  v418.toNat
def k0_dev55 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_392 : BitVec 32 := 24#32
  let v426 : BitVec 32 := Scalar.addi v2 c24_i32_392
  let c32_i32_393 : BitVec 32 := 32#32
  let v427 : BitVec 32 := Scalar.remsi v426 c32_i32_393
  let c1_i32_398 : BitVec 32 := 1#32
  let v429 : BitVec 32 := Scalar.muli v427 c1_i32_398
  let v430 : BitVec 32 := Scalar.addi c0_i32_399 v429
  v430.toNat
def k0_dev56 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_403 : BitVec 32 := 25#32
  let v438 : BitVec 32 := Scalar.addi v2 c25_i32_403
  let c32_i32_404 : BitVec 32 := 32#32
  let v439 : BitVec 32 := Scalar.remsi v438 c32_i32_404
  let c1_i32_409 : BitVec 32 := 1#32
  let v441 : BitVec 32 := Scalar.muli v439 c1_i32_409
  let v442 : BitVec 32 := Scalar.addi c0_i32_410 v441
  v442.toNat
def k0_dev57 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_414 : BitVec 32 := 26#32
  let v450 : BitVec 32 := Scalar.addi v2 c26_i32_414
  let c32_i32_415 : BitVec 32 := 32#32
  let v451 : BitVec 32 := Scalar.remsi v450 c32_i32_415
  let c1_i32_420 : BitVec 32 := 1#32
  let v453 : BitVec 32 := Scalar.muli v451 c1_i32_420
  let v454 : BitVec 32 := Scalar.addi c0_i32_421 v453
  v454.toNat
def k0_dev58 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_425 : BitVec 32 := 27#32
  let v462 : BitVec 32 := Scalar.addi v2 c27_i32_425
  let c32_i32_426 : BitVec 32 := 32#32
  let v463 : BitVec 32 := Scalar.remsi v462 c32_i32_426
  let c1_i32_431 : BitVec 32 := 1#32
  let v465 : BitVec 32 := Scalar.muli v463 c1_i32_431
  let v466 : BitVec 32 := Scalar.addi c0_i32_432 v465
  v466.toNat
def k0_dev59 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_436 : BitVec 32 := 28#32
  let v474 : BitVec 32 := Scalar.addi v2 c28_i32_436
  let c32_i32_437 : BitVec 32 := 32#32
  let v475 : BitVec 32 := Scalar.remsi v474 c32_i32_437
  let c1_i32_442 : BitVec 32 := 1#32
  let v477 : BitVec 32 := Scalar.muli v475 c1_i32_442
  let v478 : BitVec 32 := Scalar.addi c0_i32_443 v477
  v478.toNat
def k0_dev60 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_447 : BitVec 32 := 29#32
  let v486 : BitVec 32 := Scalar.addi v2 c29_i32_447
  let c32_i32_448 : BitVec 32 := 32#32
  let v487 : BitVec 32 := Scalar.remsi v486 c32_i32_448
  let c1_i32_453 : BitVec 32 := 1#32
  let v489 : BitVec 32 := Scalar.muli v487 c1_i32_453
  let v490 : BitVec 32 := Scalar.addi c0_i32_454 v489
  v490.toNat
def k0_dev61 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_458 : BitVec 32 := 30#32
  let v498 : BitVec 32 := Scalar.addi v2 c30_i32_458
  let c32_i32_459 : BitVec 32 := 32#32
  let v499 : BitVec 32 := Scalar.remsi v498 c32_i32_459
  let c1_i32_464 : BitVec 32 := 1#32
  let v501 : BitVec 32 := Scalar.muli v499 c1_i32_464
  let v502 : BitVec 32 := Scalar.addi c0_i32_465 v501
  v502.toNat
def k0_dev62 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_469 : BitVec 32 := 31#32
  let v510 : BitVec 32 := Scalar.addi v2 c31_i32_469
  let c32_i32_470 : BitVec 32 := 32#32
  let v511 : BitVec 32 := Scalar.remsi v510 c32_i32_470
  let c1_i32_475 : BitVec 32 := 1#32
  let v513 : BitVec 32 := Scalar.muli v511 c1_i32_475
  let v514 : BitVec 32 := Scalar.addi c0_i32_476 v513
  v514.toNat
def k0_dev63 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_801 : BitVec 32 := 1#32
  let v875 : BitVec 32 := Scalar.addi v2 c1_i32_801
  let c32_i32_802 : BitVec 32 := 32#32
  let v876 : BitVec 32 := Scalar.remsi v875 c32_i32_802
  let c1_i32_806 : BitVec 32 := 1#32
  let v878 : BitVec 32 := Scalar.muli v876 c1_i32_806
  let v879 : BitVec 32 := Scalar.addi c0_i32_807 v878
  v879.toNat
def k0_dev64 (d0 : Dev nD) : Nat :=
  let c0_i32_815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_809 : BitVec 32 := 2#32
  let v885 : BitVec 32 := Scalar.addi v2 c2_i32_809
  let c32_i32_810 : BitVec 32 := 32#32
  let v886 : BitVec 32 := Scalar.remsi v885 c32_i32_810
  let c1_i32_814 : BitVec 32 := 1#32
  let v888 : BitVec 32 := Scalar.muli v886 c1_i32_814
  let v889 : BitVec 32 := Scalar.addi c0_i32_815 v888
  v889.toNat
def k0_dev65 (d0 : Dev nD) : Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_817 : BitVec 32 := 3#32
  let v895 : BitVec 32 := Scalar.addi v2 c3_i32_817
  let c32_i32_818 : BitVec 32 := 32#32
  let v896 : BitVec 32 := Scalar.remsi v895 c32_i32_818
  let c1_i32_822 : BitVec 32 := 1#32
  let v898 : BitVec 32 := Scalar.muli v896 c1_i32_822
  let v899 : BitVec 32 := Scalar.addi c0_i32_823 v898
  v899.toNat
def k0_dev66 (d0 : Dev nD) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_825 : BitVec 32 := 4#32
  let v905 : BitVec 32 := Scalar.addi v2 c4_i32_825
  let c32_i32_826 : BitVec 32 := 32#32
  let v906 : BitVec 32 := Scalar.remsi v905 c32_i32_826
  let c1_i32_830 : BitVec 32 := 1#32
  let v908 : BitVec 32 := Scalar.muli v906 c1_i32_830
  let v909 : BitVec 32 := Scalar.addi c0_i32_831 v908
  v909.toNat
def k0_dev67 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_833 : BitVec 32 := 5#32
  let v915 : BitVec 32 := Scalar.addi v2 c5_i32_833
  let c32_i32_834 : BitVec 32 := 32#32
  let v916 : BitVec 32 := Scalar.remsi v915 c32_i32_834
  let c1_i32_838 : BitVec 32 := 1#32
  let v918 : BitVec 32 := Scalar.muli v916 c1_i32_838
  let v919 : BitVec 32 := Scalar.addi c0_i32_839 v918
  v919.toNat
def k0_dev68 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_841 : BitVec 32 := 6#32
  let v925 : BitVec 32 := Scalar.addi v2 c6_i32_841
  let c32_i32_842 : BitVec 32 := 32#32
  let v926 : BitVec 32 := Scalar.remsi v925 c32_i32_842
  let c1_i32_846 : BitVec 32 := 1#32
  let v928 : BitVec 32 := Scalar.muli v926 c1_i32_846
  let v929 : BitVec 32 := Scalar.addi c0_i32_847 v928
  v929.toNat
def k0_dev69 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_849 : BitVec 32 := 7#32
  let v935 : BitVec 32 := Scalar.addi v2 c7_i32_849
  let c32_i32_850 : BitVec 32 := 32#32
  let v936 : BitVec 32 := Scalar.remsi v935 c32_i32_850
  let c1_i32_854 : BitVec 32 := 1#32
  let v938 : BitVec 32 := Scalar.muli v936 c1_i32_854
  let v939 : BitVec 32 := Scalar.addi c0_i32_855 v938
  v939.toNat
def k0_dev70 (d0 : Dev nD) : Nat :=
  let c0_i32_863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_857 : BitVec 32 := 8#32
  let v945 : BitVec 32 := Scalar.addi v2 c8_i32_857
  let c32_i32_858 : BitVec 32 := 32#32
  let v946 : BitVec 32 := Scalar.remsi v945 c32_i32_858
  let c1_i32_862 : BitVec 32 := 1#32
  let v948 : BitVec 32 := Scalar.muli v946 c1_i32_862
  let v949 : BitVec 32 := Scalar.addi c0_i32_863 v948
  v949.toNat
def k0_dev71 (d0 : Dev nD) : Nat :=
  let c0_i32_871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_865 : BitVec 32 := 9#32
  let v955 : BitVec 32 := Scalar.addi v2 c9_i32_865
  let c32_i32_866 : BitVec 32 := 32#32
  let v956 : BitVec 32 := Scalar.remsi v955 c32_i32_866
  let c1_i32_870 : BitVec 32 := 1#32
  let v958 : BitVec 32 := Scalar.muli v956 c1_i32_870
  let v959 : BitVec 32 := Scalar.addi c0_i32_871 v958
  v959.toNat
def k0_dev72 (d0 : Dev nD) : Nat :=
  let c0_i32_879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_873 : BitVec 32 := 10#32
  let v965 : BitVec 32 := Scalar.addi v2 c10_i32_873
  let c32_i32_874 : BitVec 32 := 32#32
  let v966 : BitVec 32 := Scalar.remsi v965 c32_i32_874
  let c1_i32_878 : BitVec 32 := 1#32
  let v968 : BitVec 32 := Scalar.muli v966 c1_i32_878
  let v969 : BitVec 32 := Scalar.addi c0_i32_879 v968
  v969.toNat
def k0_dev73 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_881 : BitVec 32 := 11#32
  let v975 : BitVec 32 := Scalar.addi v2 c11_i32_881
  let c32_i32_882 : BitVec 32 := 32#32
  let v976 : BitVec 32 := Scalar.remsi v975 c32_i32_882
  let c1_i32_886 : BitVec 32 := 1#32
  let v978 : BitVec 32 := Scalar.muli v976 c1_i32_886
  let v979 : BitVec 32 := Scalar.addi c0_i32_887 v978
  v979.toNat
def k0_dev74 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_889 : BitVec 32 := 12#32
  let v985 : BitVec 32 := Scalar.addi v2 c12_i32_889
  let c32_i32_890 : BitVec 32 := 32#32
  let v986 : BitVec 32 := Scalar.remsi v985 c32_i32_890
  let c1_i32_894 : BitVec 32 := 1#32
  let v988 : BitVec 32 := Scalar.muli v986 c1_i32_894
  let v989 : BitVec 32 := Scalar.addi c0_i32_895 v988
  v989.toNat
def k0_dev75 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_897 : BitVec 32 := 13#32
  let v995 : BitVec 32 := Scalar.addi v2 c13_i32_897
  let c32_i32_898 : BitVec 32 := 32#32
  let v996 : BitVec 32 := Scalar.remsi v995 c32_i32_898
  let c1_i32_902 : BitVec 32 := 1#32
  let v998 : BitVec 32 := Scalar.muli v996 c1_i32_902
  let v999 : BitVec 32 := Scalar.addi c0_i32_903 v998
  v999.toNat
def k0_dev76 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_905 : BitVec 32 := 14#32
  let v1005 : BitVec 32 := Scalar.addi v2 c14_i32_905
  let c32_i32_906 : BitVec 32 := 32#32
  let v1006 : BitVec 32 := Scalar.remsi v1005 c32_i32_906
  let c1_i32_910 : BitVec 32 := 1#32
  let v1008 : BitVec 32 := Scalar.muli v1006 c1_i32_910
  let v1009 : BitVec 32 := Scalar.addi c0_i32_911 v1008
  v1009.toNat
def k0_dev77 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_913 : BitVec 32 := 15#32
  let v1015 : BitVec 32 := Scalar.addi v2 c15_i32_913
  let c32_i32_914 : BitVec 32 := 32#32
  let v1016 : BitVec 32 := Scalar.remsi v1015 c32_i32_914
  let c1_i32_918 : BitVec 32 := 1#32
  let v1018 : BitVec 32 := Scalar.muli v1016 c1_i32_918
  let v1019 : BitVec 32 := Scalar.addi c0_i32_919 v1018
  v1019.toNat
def k0_dev78 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_921 : BitVec 32 := 16#32
  let v1025 : BitVec 32 := Scalar.addi v2 c16_i32_921
  let c32_i32_922 : BitVec 32 := 32#32
  let v1026 : BitVec 32 := Scalar.remsi v1025 c32_i32_922
  let c1_i32_926 : BitVec 32 := 1#32
  let v1028 : BitVec 32 := Scalar.muli v1026 c1_i32_926
  let v1029 : BitVec 32 := Scalar.addi c0_i32_927 v1028
  v1029.toNat
def k0_dev79 (d0 : Dev nD) : Nat :=
  let c0_i32_935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_929 : BitVec 32 := 17#32
  let v1035 : BitVec 32 := Scalar.addi v2 c17_i32_929
  let c32_i32_930 : BitVec 32 := 32#32
  let v1036 : BitVec 32 := Scalar.remsi v1035 c32_i32_930
  let c1_i32_934 : BitVec 32 := 1#32
  let v1038 : BitVec 32 := Scalar.muli v1036 c1_i32_934
  let v1039 : BitVec 32 := Scalar.addi c0_i32_935 v1038
  v1039.toNat
def k0_dev80 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_937 : BitVec 32 := 18#32
  let v1045 : BitVec 32 := Scalar.addi v2 c18_i32_937
  let c32_i32_938 : BitVec 32 := 32#32
  let v1046 : BitVec 32 := Scalar.remsi v1045 c32_i32_938
  let c1_i32_942 : BitVec 32 := 1#32
  let v1048 : BitVec 32 := Scalar.muli v1046 c1_i32_942
  let v1049 : BitVec 32 := Scalar.addi c0_i32_943 v1048
  v1049.toNat
def k0_dev81 (d0 : Dev nD) : Nat :=
  let c0_i32_951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_945 : BitVec 32 := 19#32
  let v1055 : BitVec 32 := Scalar.addi v2 c19_i32_945
  let c32_i32_946 : BitVec 32 := 32#32
  let v1056 : BitVec 32 := Scalar.remsi v1055 c32_i32_946
  let c1_i32_950 : BitVec 32 := 1#32
  let v1058 : BitVec 32 := Scalar.muli v1056 c1_i32_950
  let v1059 : BitVec 32 := Scalar.addi c0_i32_951 v1058
  v1059.toNat
def k0_dev82 (d0 : Dev nD) : Nat :=
  let c0_i32_959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_953 : BitVec 32 := 20#32
  let v1065 : BitVec 32 := Scalar.addi v2 c20_i32_953
  let c32_i32_954 : BitVec 32 := 32#32
  let v1066 : BitVec 32 := Scalar.remsi v1065 c32_i32_954
  let c1_i32_958 : BitVec 32 := 1#32
  let v1068 : BitVec 32 := Scalar.muli v1066 c1_i32_958
  let v1069 : BitVec 32 := Scalar.addi c0_i32_959 v1068
  v1069.toNat
def k0_dev83 (d0 : Dev nD) : Nat :=
  let c0_i32_967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_961 : BitVec 32 := 21#32
  let v1075 : BitVec 32 := Scalar.addi v2 c21_i32_961
  let c32_i32_962 : BitVec 32 := 32#32
  let v1076 : BitVec 32 := Scalar.remsi v1075 c32_i32_962
  let c1_i32_966 : BitVec 32 := 1#32
  let v1078 : BitVec 32 := Scalar.muli v1076 c1_i32_966
  let v1079 : BitVec 32 := Scalar.addi c0_i32_967 v1078
  v1079.toNat
def k0_dev84 (d0 : Dev nD) : Nat :=
  let c0_i32_975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_969 : BitVec 32 := 22#32
  let v1085 : BitVec 32 := Scalar.addi v2 c22_i32_969
  let c32_i32_970 : BitVec 32 := 32#32
  let v1086 : BitVec 32 := Scalar.remsi v1085 c32_i32_970
  let c1_i32_974 : BitVec 32 := 1#32
  let v1088 : BitVec 32 := Scalar.muli v1086 c1_i32_974
  let v1089 : BitVec 32 := Scalar.addi c0_i32_975 v1088
  v1089.toNat
def k0_dev85 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_977 : BitVec 32 := 23#32
  let v1095 : BitVec 32 := Scalar.addi v2 c23_i32_977
  let c32_i32_978 : BitVec 32 := 32#32
  let v1096 : BitVec 32 := Scalar.remsi v1095 c32_i32_978
  let c1_i32_982 : BitVec 32 := 1#32
  let v1098 : BitVec 32 := Scalar.muli v1096 c1_i32_982
  let v1099 : BitVec 32 := Scalar.addi c0_i32_983 v1098
  v1099.toNat
def k0_dev86 (d0 : Dev nD) : Nat :=
  let c0_i32_991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_985 : BitVec 32 := 24#32
  let v1105 : BitVec 32 := Scalar.addi v2 c24_i32_985
  let c32_i32_986 : BitVec 32 := 32#32
  let v1106 : BitVec 32 := Scalar.remsi v1105 c32_i32_986
  let c1_i32_990 : BitVec 32 := 1#32
  let v1108 : BitVec 32 := Scalar.muli v1106 c1_i32_990
  let v1109 : BitVec 32 := Scalar.addi c0_i32_991 v1108
  v1109.toNat
def k0_dev87 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_993 : BitVec 32 := 25#32
  let v1115 : BitVec 32 := Scalar.addi v2 c25_i32_993
  let c32_i32_994 : BitVec 32 := 32#32
  let v1116 : BitVec 32 := Scalar.remsi v1115 c32_i32_994
  let c1_i32_998 : BitVec 32 := 1#32
  let v1118 : BitVec 32 := Scalar.muli v1116 c1_i32_998
  let v1119 : BitVec 32 := Scalar.addi c0_i32_999 v1118
  v1119.toNat
def k0_dev88 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1001 : BitVec 32 := 26#32
  let v1125 : BitVec 32 := Scalar.addi v2 c26_i32_1001
  let c32_i32_1002 : BitVec 32 := 32#32
  let v1126 : BitVec 32 := Scalar.remsi v1125 c32_i32_1002
  let c1_i32_1006 : BitVec 32 := 1#32
  let v1128 : BitVec 32 := Scalar.muli v1126 c1_i32_1006
  let v1129 : BitVec 32 := Scalar.addi c0_i32_1007 v1128
  v1129.toNat
def k0_dev89 (d0 : Dev nD) : Nat :=
  let c0_i32_1015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1009 : BitVec 32 := 27#32
  let v1135 : BitVec 32 := Scalar.addi v2 c27_i32_1009
  let c32_i32_1010 : BitVec 32 := 32#32
  let v1136 : BitVec 32 := Scalar.remsi v1135 c32_i32_1010
  let c1_i32_1014 : BitVec 32 := 1#32
  let v1138 : BitVec 32 := Scalar.muli v1136 c1_i32_1014
  let v1139 : BitVec 32 := Scalar.addi c0_i32_1015 v1138
  v1139.toNat
def k0_dev90 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1017 : BitVec 32 := 28#32
  let v1145 : BitVec 32 := Scalar.addi v2 c28_i32_1017
  let c32_i32_1018 : BitVec 32 := 32#32
  let v1146 : BitVec 32 := Scalar.remsi v1145 c32_i32_1018
  let c1_i32_1022 : BitVec 32 := 1#32
  let v1148 : BitVec 32 := Scalar.muli v1146 c1_i32_1022
  let v1149 : BitVec 32 := Scalar.addi c0_i32_1023 v1148
  v1149.toNat
def k0_dev91 (d0 : Dev nD) : Nat :=
  let c0_i32_1031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1025 : BitVec 32 := 29#32
  let v1155 : BitVec 32 := Scalar.addi v2 c29_i32_1025
  let c32_i32_1026 : BitVec 32 := 32#32
  let v1156 : BitVec 32 := Scalar.remsi v1155 c32_i32_1026
  let c1_i32_1030 : BitVec 32 := 1#32
  let v1158 : BitVec 32 := Scalar.muli v1156 c1_i32_1030
  let v1159 : BitVec 32 := Scalar.addi c0_i32_1031 v1158
  v1159.toNat
def k0_dev92 (d0 : Dev nD) : Nat :=
  let c0_i32_1039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1033 : BitVec 32 := 30#32
  let v1165 : BitVec 32 := Scalar.addi v2 c30_i32_1033
  let c32_i32_1034 : BitVec 32 := 32#32
  let v1166 : BitVec 32 := Scalar.remsi v1165 c32_i32_1034
  let c1_i32_1038 : BitVec 32 := 1#32
  let v1168 : BitVec 32 := Scalar.muli v1166 c1_i32_1038
  let v1169 : BitVec 32 := Scalar.addi c0_i32_1039 v1168
  v1169.toNat
def k0_dev93 (d0 : Dev nD) : Nat :=
  let c0_i32_1047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1041 : BitVec 32 := 31#32
  let v1175 : BitVec 32 := Scalar.addi v2 c31_i32_1041
  let c32_i32_1042 : BitVec 32 := 32#32
  let v1176 : BitVec 32 := Scalar.remsi v1175 c32_i32_1042
  let c1_i32_1046 : BitVec 32 := 1#32
  let v1178 : BitVec 32 := Scalar.muli v1176 c1_i32_1046
  let v1179 : BitVec 32 := Scalar.addi c0_i32_1047 v1178
  v1179.toNat
def k0_dev94 (d0 : Dev nD) : Nat :=
  let c0_i32_1445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1438 : BitVec 32 := 1#32
  let v1516 : BitVec 32 := Scalar.addi v2 c1_i32_1438
  let c32_i32_1439 : BitVec 32 := 32#32
  let v1517 : BitVec 32 := Scalar.remsi v1516 c32_i32_1439
  let c1_i32_1444 : BitVec 32 := 1#32
  let v1519 : BitVec 32 := Scalar.muli v1517 c1_i32_1444
  let v1520 : BitVec 32 := Scalar.addi c0_i32_1445 v1519
  v1520.toNat
def k0_dev95 (d0 : Dev nD) : Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1449 : BitVec 32 := 2#32
  let v1528 : BitVec 32 := Scalar.addi v2 c2_i32_1449
  let c32_i32_1450 : BitVec 32 := 32#32
  let v1529 : BitVec 32 := Scalar.remsi v1528 c32_i32_1450
  let c1_i32_1455 : BitVec 32 := 1#32
  let v1531 : BitVec 32 := Scalar.muli v1529 c1_i32_1455
  let v1532 : BitVec 32 := Scalar.addi c0_i32_1456 v1531
  v1532.toNat
def k0_dev96 (d0 : Dev nD) : Nat :=
  let c0_i32_1467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1460 : BitVec 32 := 3#32
  let v1540 : BitVec 32 := Scalar.addi v2 c3_i32_1460
  let c32_i32_1461 : BitVec 32 := 32#32
  let v1541 : BitVec 32 := Scalar.remsi v1540 c32_i32_1461
  let c1_i32_1466 : BitVec 32 := 1#32
  let v1543 : BitVec 32 := Scalar.muli v1541 c1_i32_1466
  let v1544 : BitVec 32 := Scalar.addi c0_i32_1467 v1543
  v1544.toNat
def k0_dev97 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1471 : BitVec 32 := 4#32
  let v1552 : BitVec 32 := Scalar.addi v2 c4_i32_1471
  let c32_i32_1472 : BitVec 32 := 32#32
  let v1553 : BitVec 32 := Scalar.remsi v1552 c32_i32_1472
  let c1_i32_1477 : BitVec 32 := 1#32
  let v1555 : BitVec 32 := Scalar.muli v1553 c1_i32_1477
  let v1556 : BitVec 32 := Scalar.addi c0_i32_1478 v1555
  v1556.toNat
def k0_dev98 (d0 : Dev nD) : Nat :=
  let c0_i32_1489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1482 : BitVec 32 := 5#32
  let v1564 : BitVec 32 := Scalar.addi v2 c5_i32_1482
  let c32_i32_1483 : BitVec 32 := 32#32
  let v1565 : BitVec 32 := Scalar.remsi v1564 c32_i32_1483
  let c1_i32_1488 : BitVec 32 := 1#32
  let v1567 : BitVec 32 := Scalar.muli v1565 c1_i32_1488
  let v1568 : BitVec 32 := Scalar.addi c0_i32_1489 v1567
  v1568.toNat
def k0_dev99 (d0 : Dev nD) : Nat :=
  let c0_i32_1500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1493 : BitVec 32 := 6#32
  let v1576 : BitVec 32 := Scalar.addi v2 c6_i32_1493
  let c32_i32_1494 : BitVec 32 := 32#32
  let v1577 : BitVec 32 := Scalar.remsi v1576 c32_i32_1494
  let c1_i32_1499 : BitVec 32 := 1#32
  let v1579 : BitVec 32 := Scalar.muli v1577 c1_i32_1499
  let v1580 : BitVec 32 := Scalar.addi c0_i32_1500 v1579
  v1580.toNat
def k0_dev100 (d0 : Dev nD) : Nat :=
  let c0_i32_1511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1504 : BitVec 32 := 7#32
  let v1588 : BitVec 32 := Scalar.addi v2 c7_i32_1504
  let c32_i32_1505 : BitVec 32 := 32#32
  let v1589 : BitVec 32 := Scalar.remsi v1588 c32_i32_1505
  let c1_i32_1510 : BitVec 32 := 1#32
  let v1591 : BitVec 32 := Scalar.muli v1589 c1_i32_1510
  let v1592 : BitVec 32 := Scalar.addi c0_i32_1511 v1591
  v1592.toNat
def k0_dev101 (d0 : Dev nD) : Nat :=
  let c0_i32_1522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1515 : BitVec 32 := 8#32
  let v1600 : BitVec 32 := Scalar.addi v2 c8_i32_1515
  let c32_i32_1516 : BitVec 32 := 32#32
  let v1601 : BitVec 32 := Scalar.remsi v1600 c32_i32_1516
  let c1_i32_1521 : BitVec 32 := 1#32
  let v1603 : BitVec 32 := Scalar.muli v1601 c1_i32_1521
  let v1604 : BitVec 32 := Scalar.addi c0_i32_1522 v1603
  v1604.toNat
def k0_dev102 (d0 : Dev nD) : Nat :=
  let c0_i32_1533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1526 : BitVec 32 := 9#32
  let v1612 : BitVec 32 := Scalar.addi v2 c9_i32_1526
  let c32_i32_1527 : BitVec 32 := 32#32
  let v1613 : BitVec 32 := Scalar.remsi v1612 c32_i32_1527
  let c1_i32_1532 : BitVec 32 := 1#32
  let v1615 : BitVec 32 := Scalar.muli v1613 c1_i32_1532
  let v1616 : BitVec 32 := Scalar.addi c0_i32_1533 v1615
  v1616.toNat
def k0_dev103 (d0 : Dev nD) : Nat :=
  let c0_i32_1544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1537 : BitVec 32 := 10#32
  let v1624 : BitVec 32 := Scalar.addi v2 c10_i32_1537
  let c32_i32_1538 : BitVec 32 := 32#32
  let v1625 : BitVec 32 := Scalar.remsi v1624 c32_i32_1538
  let c1_i32_1543 : BitVec 32 := 1#32
  let v1627 : BitVec 32 := Scalar.muli v1625 c1_i32_1543
  let v1628 : BitVec 32 := Scalar.addi c0_i32_1544 v1627
  v1628.toNat
def k0_dev104 (d0 : Dev nD) : Nat :=
  let c0_i32_1555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1548 : BitVec 32 := 11#32
  let v1636 : BitVec 32 := Scalar.addi v2 c11_i32_1548
  let c32_i32_1549 : BitVec 32 := 32#32
  let v1637 : BitVec 32 := Scalar.remsi v1636 c32_i32_1549
  let c1_i32_1554 : BitVec 32 := 1#32
  let v1639 : BitVec 32 := Scalar.muli v1637 c1_i32_1554
  let v1640 : BitVec 32 := Scalar.addi c0_i32_1555 v1639
  v1640.toNat
def k0_dev105 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1559 : BitVec 32 := 12#32
  let v1648 : BitVec 32 := Scalar.addi v2 c12_i32_1559
  let c32_i32_1560 : BitVec 32 := 32#32
  let v1649 : BitVec 32 := Scalar.remsi v1648 c32_i32_1560
  let c1_i32_1565 : BitVec 32 := 1#32
  let v1651 : BitVec 32 := Scalar.muli v1649 c1_i32_1565
  let v1652 : BitVec 32 := Scalar.addi c0_i32_1566 v1651
  v1652.toNat
def k0_dev106 (d0 : Dev nD) : Nat :=
  let c0_i32_1577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1570 : BitVec 32 := 13#32
  let v1660 : BitVec 32 := Scalar.addi v2 c13_i32_1570
  let c32_i32_1571 : BitVec 32 := 32#32
  let v1661 : BitVec 32 := Scalar.remsi v1660 c32_i32_1571
  let c1_i32_1576 : BitVec 32 := 1#32
  let v1663 : BitVec 32 := Scalar.muli v1661 c1_i32_1576
  let v1664 : BitVec 32 := Scalar.addi c0_i32_1577 v1663
  v1664.toNat
def k0_dev107 (d0 : Dev nD) : Nat :=
  let c0_i32_1588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1581 : BitVec 32 := 14#32
  let v1672 : BitVec 32 := Scalar.addi v2 c14_i32_1581
  let c32_i32_1582 : BitVec 32 := 32#32
  let v1673 : BitVec 32 := Scalar.remsi v1672 c32_i32_1582
  let c1_i32_1587 : BitVec 32 := 1#32
  let v1675 : BitVec 32 := Scalar.muli v1673 c1_i32_1587
  let v1676 : BitVec 32 := Scalar.addi c0_i32_1588 v1675
  v1676.toNat
def k0_dev108 (d0 : Dev nD) : Nat :=
  let c0_i32_1599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1592 : BitVec 32 := 15#32
  let v1684 : BitVec 32 := Scalar.addi v2 c15_i32_1592
  let c32_i32_1593 : BitVec 32 := 32#32
  let v1685 : BitVec 32 := Scalar.remsi v1684 c32_i32_1593
  let c1_i32_1598 : BitVec 32 := 1#32
  let v1687 : BitVec 32 := Scalar.muli v1685 c1_i32_1598
  let v1688 : BitVec 32 := Scalar.addi c0_i32_1599 v1687
  v1688.toNat
def k0_dev109 (d0 : Dev nD) : Nat :=
  let c0_i32_1610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1603 : BitVec 32 := 16#32
  let v1696 : BitVec 32 := Scalar.addi v2 c16_i32_1603
  let c32_i32_1604 : BitVec 32 := 32#32
  let v1697 : BitVec 32 := Scalar.remsi v1696 c32_i32_1604
  let c1_i32_1609 : BitVec 32 := 1#32
  let v1699 : BitVec 32 := Scalar.muli v1697 c1_i32_1609
  let v1700 : BitVec 32 := Scalar.addi c0_i32_1610 v1699
  v1700.toNat
def k0_dev110 (d0 : Dev nD) : Nat :=
  let c0_i32_1621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1614 : BitVec 32 := 17#32
  let v1708 : BitVec 32 := Scalar.addi v2 c17_i32_1614
  let c32_i32_1615 : BitVec 32 := 32#32
  let v1709 : BitVec 32 := Scalar.remsi v1708 c32_i32_1615
  let c1_i32_1620 : BitVec 32 := 1#32
  let v1711 : BitVec 32 := Scalar.muli v1709 c1_i32_1620
  let v1712 : BitVec 32 := Scalar.addi c0_i32_1621 v1711
  v1712.toNat
def k0_dev111 (d0 : Dev nD) : Nat :=
  let c0_i32_1632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1625 : BitVec 32 := 18#32
  let v1720 : BitVec 32 := Scalar.addi v2 c18_i32_1625
  let c32_i32_1626 : BitVec 32 := 32#32
  let v1721 : BitVec 32 := Scalar.remsi v1720 c32_i32_1626
  let c1_i32_1631 : BitVec 32 := 1#32
  let v1723 : BitVec 32 := Scalar.muli v1721 c1_i32_1631
  let v1724 : BitVec 32 := Scalar.addi c0_i32_1632 v1723
  v1724.toNat
def k0_dev112 (d0 : Dev nD) : Nat :=
  let c0_i32_1643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1636 : BitVec 32 := 19#32
  let v1732 : BitVec 32 := Scalar.addi v2 c19_i32_1636
  let c32_i32_1637 : BitVec 32 := 32#32
  let v1733 : BitVec 32 := Scalar.remsi v1732 c32_i32_1637
  let c1_i32_1642 : BitVec 32 := 1#32
  let v1735 : BitVec 32 := Scalar.muli v1733 c1_i32_1642
  let v1736 : BitVec 32 := Scalar.addi c0_i32_1643 v1735
  v1736.toNat
def k0_dev113 (d0 : Dev nD) : Nat :=
  let c0_i32_1654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1647 : BitVec 32 := 20#32
  let v1744 : BitVec 32 := Scalar.addi v2 c20_i32_1647
  let c32_i32_1648 : BitVec 32 := 32#32
  let v1745 : BitVec 32 := Scalar.remsi v1744 c32_i32_1648
  let c1_i32_1653 : BitVec 32 := 1#32
  let v1747 : BitVec 32 := Scalar.muli v1745 c1_i32_1653
  let v1748 : BitVec 32 := Scalar.addi c0_i32_1654 v1747
  v1748.toNat
def k0_dev114 (d0 : Dev nD) : Nat :=
  let c0_i32_1665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1658 : BitVec 32 := 21#32
  let v1756 : BitVec 32 := Scalar.addi v2 c21_i32_1658
  let c32_i32_1659 : BitVec 32 := 32#32
  let v1757 : BitVec 32 := Scalar.remsi v1756 c32_i32_1659
  let c1_i32_1664 : BitVec 32 := 1#32
  let v1759 : BitVec 32 := Scalar.muli v1757 c1_i32_1664
  let v1760 : BitVec 32 := Scalar.addi c0_i32_1665 v1759
  v1760.toNat
def k0_dev115 (d0 : Dev nD) : Nat :=
  let c0_i32_1676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1669 : BitVec 32 := 22#32
  let v1768 : BitVec 32 := Scalar.addi v2 c22_i32_1669
  let c32_i32_1670 : BitVec 32 := 32#32
  let v1769 : BitVec 32 := Scalar.remsi v1768 c32_i32_1670
  let c1_i32_1675 : BitVec 32 := 1#32
  let v1771 : BitVec 32 := Scalar.muli v1769 c1_i32_1675
  let v1772 : BitVec 32 := Scalar.addi c0_i32_1676 v1771
  v1772.toNat
def k0_dev116 (d0 : Dev nD) : Nat :=
  let c0_i32_1687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1680 : BitVec 32 := 23#32
  let v1780 : BitVec 32 := Scalar.addi v2 c23_i32_1680
  let c32_i32_1681 : BitVec 32 := 32#32
  let v1781 : BitVec 32 := Scalar.remsi v1780 c32_i32_1681
  let c1_i32_1686 : BitVec 32 := 1#32
  let v1783 : BitVec 32 := Scalar.muli v1781 c1_i32_1686
  let v1784 : BitVec 32 := Scalar.addi c0_i32_1687 v1783
  v1784.toNat
def k0_dev117 (d0 : Dev nD) : Nat :=
  let c0_i32_1698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1691 : BitVec 32 := 24#32
  let v1792 : BitVec 32 := Scalar.addi v2 c24_i32_1691
  let c32_i32_1692 : BitVec 32 := 32#32
  let v1793 : BitVec 32 := Scalar.remsi v1792 c32_i32_1692
  let c1_i32_1697 : BitVec 32 := 1#32
  let v1795 : BitVec 32 := Scalar.muli v1793 c1_i32_1697
  let v1796 : BitVec 32 := Scalar.addi c0_i32_1698 v1795
  v1796.toNat
def k0_dev118 (d0 : Dev nD) : Nat :=
  let c0_i32_1709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1702 : BitVec 32 := 25#32
  let v1804 : BitVec 32 := Scalar.addi v2 c25_i32_1702
  let c32_i32_1703 : BitVec 32 := 32#32
  let v1805 : BitVec 32 := Scalar.remsi v1804 c32_i32_1703
  let c1_i32_1708 : BitVec 32 := 1#32
  let v1807 : BitVec 32 := Scalar.muli v1805 c1_i32_1708
  let v1808 : BitVec 32 := Scalar.addi c0_i32_1709 v1807
  v1808.toNat
def k0_dev119 (d0 : Dev nD) : Nat :=
  let c0_i32_1720 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1713 : BitVec 32 := 26#32
  let v1816 : BitVec 32 := Scalar.addi v2 c26_i32_1713
  let c32_i32_1714 : BitVec 32 := 32#32
  let v1817 : BitVec 32 := Scalar.remsi v1816 c32_i32_1714
  let c1_i32_1719 : BitVec 32 := 1#32
  let v1819 : BitVec 32 := Scalar.muli v1817 c1_i32_1719
  let v1820 : BitVec 32 := Scalar.addi c0_i32_1720 v1819
  v1820.toNat
def k0_dev120 (d0 : Dev nD) : Nat :=
  let c0_i32_1731 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1724 : BitVec 32 := 27#32
  let v1828 : BitVec 32 := Scalar.addi v2 c27_i32_1724
  let c32_i32_1725 : BitVec 32 := 32#32
  let v1829 : BitVec 32 := Scalar.remsi v1828 c32_i32_1725
  let c1_i32_1730 : BitVec 32 := 1#32
  let v1831 : BitVec 32 := Scalar.muli v1829 c1_i32_1730
  let v1832 : BitVec 32 := Scalar.addi c0_i32_1731 v1831
  v1832.toNat
def k0_dev121 (d0 : Dev nD) : Nat :=
  let c0_i32_1742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1735 : BitVec 32 := 28#32
  let v1840 : BitVec 32 := Scalar.addi v2 c28_i32_1735
  let c32_i32_1736 : BitVec 32 := 32#32
  let v1841 : BitVec 32 := Scalar.remsi v1840 c32_i32_1736
  let c1_i32_1741 : BitVec 32 := 1#32
  let v1843 : BitVec 32 := Scalar.muli v1841 c1_i32_1741
  let v1844 : BitVec 32 := Scalar.addi c0_i32_1742 v1843
  v1844.toNat
def k0_dev122 (d0 : Dev nD) : Nat :=
  let c0_i32_1753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1746 : BitVec 32 := 29#32
  let v1852 : BitVec 32 := Scalar.addi v2 c29_i32_1746
  let c32_i32_1747 : BitVec 32 := 32#32
  let v1853 : BitVec 32 := Scalar.remsi v1852 c32_i32_1747
  let c1_i32_1752 : BitVec 32 := 1#32
  let v1855 : BitVec 32 := Scalar.muli v1853 c1_i32_1752
  let v1856 : BitVec 32 := Scalar.addi c0_i32_1753 v1855
  v1856.toNat
def k0_dev123 (d0 : Dev nD) : Nat :=
  let c0_i32_1764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1757 : BitVec 32 := 30#32
  let v1864 : BitVec 32 := Scalar.addi v2 c30_i32_1757
  let c32_i32_1758 : BitVec 32 := 32#32
  let v1865 : BitVec 32 := Scalar.remsi v1864 c32_i32_1758
  let c1_i32_1763 : BitVec 32 := 1#32
  let v1867 : BitVec 32 := Scalar.muli v1865 c1_i32_1763
  let v1868 : BitVec 32 := Scalar.addi c0_i32_1764 v1867
  v1868.toNat
def k0_dev124 (d0 : Dev nD) : Nat :=
  let c0_i32_1775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1768 : BitVec 32 := 31#32
  let v1876 : BitVec 32 := Scalar.addi v2 c31_i32_1768
  let c32_i32_1769 : BitVec 32 := 32#32
  let v1877 : BitVec 32 := Scalar.remsi v1876 c32_i32_1769
  let c1_i32_1774 : BitVec 32 := 1#32
  let v1879 : BitVec 32 := Scalar.muli v1877 c1_i32_1774
  let v1880 : BitVec 32 := Scalar.addi c0_i32_1775 v1879
  v1880.toNat
def k0_dev125 (d0 : Dev nD) : Nat :=
  let c0_i32_2261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2255 : BitVec 32 := 1#32
  let v2334 : BitVec 32 := Scalar.addi v2 c1_i32_2255
  let c32_i32_2256 : BitVec 32 := 32#32
  let v2335 : BitVec 32 := Scalar.remsi v2334 c32_i32_2256
  let c1_i32_2260 : BitVec 32 := 1#32
  let v2337 : BitVec 32 := Scalar.muli v2335 c1_i32_2260
  let v2338 : BitVec 32 := Scalar.addi c0_i32_2261 v2337
  v2338.toNat
def k0_dev126 (d0 : Dev nD) : Nat :=
  let c0_i32_2269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2263 : BitVec 32 := 2#32
  let v2344 : BitVec 32 := Scalar.addi v2 c2_i32_2263
  let c32_i32_2264 : BitVec 32 := 32#32
  let v2345 : BitVec 32 := Scalar.remsi v2344 c32_i32_2264
  let c1_i32_2268 : BitVec 32 := 1#32
  let v2347 : BitVec 32 := Scalar.muli v2345 c1_i32_2268
  let v2348 : BitVec 32 := Scalar.addi c0_i32_2269 v2347
  v2348.toNat
def k0_dev127 (d0 : Dev nD) : Nat :=
  let c0_i32_2277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2271 : BitVec 32 := 3#32
  let v2354 : BitVec 32 := Scalar.addi v2 c3_i32_2271
  let c32_i32_2272 : BitVec 32 := 32#32
  let v2355 : BitVec 32 := Scalar.remsi v2354 c32_i32_2272
  let c1_i32_2276 : BitVec 32 := 1#32
  let v2357 : BitVec 32 := Scalar.muli v2355 c1_i32_2276
  let v2358 : BitVec 32 := Scalar.addi c0_i32_2277 v2357
  v2358.toNat
def k0_dev128 (d0 : Dev nD) : Nat :=
  let c0_i32_2285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2279 : BitVec 32 := 4#32
  let v2364 : BitVec 32 := Scalar.addi v2 c4_i32_2279
  let c32_i32_2280 : BitVec 32 := 32#32
  let v2365 : BitVec 32 := Scalar.remsi v2364 c32_i32_2280
  let c1_i32_2284 : BitVec 32 := 1#32
  let v2367 : BitVec 32 := Scalar.muli v2365 c1_i32_2284
  let v2368 : BitVec 32 := Scalar.addi c0_i32_2285 v2367
  v2368.toNat
def k0_dev129 (d0 : Dev nD) : Nat :=
  let c0_i32_2293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2287 : BitVec 32 := 5#32
  let v2374 : BitVec 32 := Scalar.addi v2 c5_i32_2287
  let c32_i32_2288 : BitVec 32 := 32#32
  let v2375 : BitVec 32 := Scalar.remsi v2374 c32_i32_2288
  let c1_i32_2292 : BitVec 32 := 1#32
  let v2377 : BitVec 32 := Scalar.muli v2375 c1_i32_2292
  let v2378 : BitVec 32 := Scalar.addi c0_i32_2293 v2377
  v2378.toNat
def k0_dev130 (d0 : Dev nD) : Nat :=
  let c0_i32_2301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2295 : BitVec 32 := 6#32
  let v2384 : BitVec 32 := Scalar.addi v2 c6_i32_2295
  let c32_i32_2296 : BitVec 32 := 32#32
  let v2385 : BitVec 32 := Scalar.remsi v2384 c32_i32_2296
  let c1_i32_2300 : BitVec 32 := 1#32
  let v2387 : BitVec 32 := Scalar.muli v2385 c1_i32_2300
  let v2388 : BitVec 32 := Scalar.addi c0_i32_2301 v2387
  v2388.toNat
def k0_dev131 (d0 : Dev nD) : Nat :=
  let c0_i32_2309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2303 : BitVec 32 := 7#32
  let v2394 : BitVec 32 := Scalar.addi v2 c7_i32_2303
  let c32_i32_2304 : BitVec 32 := 32#32
  let v2395 : BitVec 32 := Scalar.remsi v2394 c32_i32_2304
  let c1_i32_2308 : BitVec 32 := 1#32
  let v2397 : BitVec 32 := Scalar.muli v2395 c1_i32_2308
  let v2398 : BitVec 32 := Scalar.addi c0_i32_2309 v2397
  v2398.toNat
def k0_dev132 (d0 : Dev nD) : Nat :=
  let c0_i32_2317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2311 : BitVec 32 := 8#32
  let v2404 : BitVec 32 := Scalar.addi v2 c8_i32_2311
  let c32_i32_2312 : BitVec 32 := 32#32
  let v2405 : BitVec 32 := Scalar.remsi v2404 c32_i32_2312
  let c1_i32_2316 : BitVec 32 := 1#32
  let v2407 : BitVec 32 := Scalar.muli v2405 c1_i32_2316
  let v2408 : BitVec 32 := Scalar.addi c0_i32_2317 v2407
  v2408.toNat
def k0_dev133 (d0 : Dev nD) : Nat :=
  let c0_i32_2325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2319 : BitVec 32 := 9#32
  let v2414 : BitVec 32 := Scalar.addi v2 c9_i32_2319
  let c32_i32_2320 : BitVec 32 := 32#32
  let v2415 : BitVec 32 := Scalar.remsi v2414 c32_i32_2320
  let c1_i32_2324 : BitVec 32 := 1#32
  let v2417 : BitVec 32 := Scalar.muli v2415 c1_i32_2324
  let v2418 : BitVec 32 := Scalar.addi c0_i32_2325 v2417
  v2418.toNat
def k0_dev134 (d0 : Dev nD) : Nat :=
  let c0_i32_2333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2327 : BitVec 32 := 10#32
  let v2424 : BitVec 32 := Scalar.addi v2 c10_i32_2327
  let c32_i32_2328 : BitVec 32 := 32#32
  let v2425 : BitVec 32 := Scalar.remsi v2424 c32_i32_2328
  let c1_i32_2332 : BitVec 32 := 1#32
  let v2427 : BitVec 32 := Scalar.muli v2425 c1_i32_2332
  let v2428 : BitVec 32 := Scalar.addi c0_i32_2333 v2427
  v2428.toNat
def k0_dev135 (d0 : Dev nD) : Nat :=
  let c0_i32_2341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2335 : BitVec 32 := 11#32
  let v2434 : BitVec 32 := Scalar.addi v2 c11_i32_2335
  let c32_i32_2336 : BitVec 32 := 32#32
  let v2435 : BitVec 32 := Scalar.remsi v2434 c32_i32_2336
  let c1_i32_2340 : BitVec 32 := 1#32
  let v2437 : BitVec 32 := Scalar.muli v2435 c1_i32_2340
  let v2438 : BitVec 32 := Scalar.addi c0_i32_2341 v2437
  v2438.toNat
def k0_dev136 (d0 : Dev nD) : Nat :=
  let c0_i32_2349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2343 : BitVec 32 := 12#32
  let v2444 : BitVec 32 := Scalar.addi v2 c12_i32_2343
  let c32_i32_2344 : BitVec 32 := 32#32
  let v2445 : BitVec 32 := Scalar.remsi v2444 c32_i32_2344
  let c1_i32_2348 : BitVec 32 := 1#32
  let v2447 : BitVec 32 := Scalar.muli v2445 c1_i32_2348
  let v2448 : BitVec 32 := Scalar.addi c0_i32_2349 v2447
  v2448.toNat
def k0_dev137 (d0 : Dev nD) : Nat :=
  let c0_i32_2357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2351 : BitVec 32 := 13#32
  let v2454 : BitVec 32 := Scalar.addi v2 c13_i32_2351
  let c32_i32_2352 : BitVec 32 := 32#32
  let v2455 : BitVec 32 := Scalar.remsi v2454 c32_i32_2352
  let c1_i32_2356 : BitVec 32 := 1#32
  let v2457 : BitVec 32 := Scalar.muli v2455 c1_i32_2356
  let v2458 : BitVec 32 := Scalar.addi c0_i32_2357 v2457
  v2458.toNat
def k0_dev138 (d0 : Dev nD) : Nat :=
  let c0_i32_2365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2359 : BitVec 32 := 14#32
  let v2464 : BitVec 32 := Scalar.addi v2 c14_i32_2359
  let c32_i32_2360 : BitVec 32 := 32#32
  let v2465 : BitVec 32 := Scalar.remsi v2464 c32_i32_2360
  let c1_i32_2364 : BitVec 32 := 1#32
  let v2467 : BitVec 32 := Scalar.muli v2465 c1_i32_2364
  let v2468 : BitVec 32 := Scalar.addi c0_i32_2365 v2467
  v2468.toNat
def k0_dev139 (d0 : Dev nD) : Nat :=
  let c0_i32_2373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2367 : BitVec 32 := 15#32
  let v2474 : BitVec 32 := Scalar.addi v2 c15_i32_2367
  let c32_i32_2368 : BitVec 32 := 32#32
  let v2475 : BitVec 32 := Scalar.remsi v2474 c32_i32_2368
  let c1_i32_2372 : BitVec 32 := 1#32
  let v2477 : BitVec 32 := Scalar.muli v2475 c1_i32_2372
  let v2478 : BitVec 32 := Scalar.addi c0_i32_2373 v2477
  v2478.toNat
def k0_dev140 (d0 : Dev nD) : Nat :=
  let c0_i32_2381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2375 : BitVec 32 := 16#32
  let v2484 : BitVec 32 := Scalar.addi v2 c16_i32_2375
  let c32_i32_2376 : BitVec 32 := 32#32
  let v2485 : BitVec 32 := Scalar.remsi v2484 c32_i32_2376
  let c1_i32_2380 : BitVec 32 := 1#32
  let v2487 : BitVec 32 := Scalar.muli v2485 c1_i32_2380
  let v2488 : BitVec 32 := Scalar.addi c0_i32_2381 v2487
  v2488.toNat
def k0_dev141 (d0 : Dev nD) : Nat :=
  let c0_i32_2389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2383 : BitVec 32 := 17#32
  let v2494 : BitVec 32 := Scalar.addi v2 c17_i32_2383
  let c32_i32_2384 : BitVec 32 := 32#32
  let v2495 : BitVec 32 := Scalar.remsi v2494 c32_i32_2384
  let c1_i32_2388 : BitVec 32 := 1#32
  let v2497 : BitVec 32 := Scalar.muli v2495 c1_i32_2388
  let v2498 : BitVec 32 := Scalar.addi c0_i32_2389 v2497
  v2498.toNat
def k0_dev142 (d0 : Dev nD) : Nat :=
  let c0_i32_2397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2391 : BitVec 32 := 18#32
  let v2504 : BitVec 32 := Scalar.addi v2 c18_i32_2391
  let c32_i32_2392 : BitVec 32 := 32#32
  let v2505 : BitVec 32 := Scalar.remsi v2504 c32_i32_2392
  let c1_i32_2396 : BitVec 32 := 1#32
  let v2507 : BitVec 32 := Scalar.muli v2505 c1_i32_2396
  let v2508 : BitVec 32 := Scalar.addi c0_i32_2397 v2507
  v2508.toNat
def k0_dev143 (d0 : Dev nD) : Nat :=
  let c0_i32_2405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2399 : BitVec 32 := 19#32
  let v2514 : BitVec 32 := Scalar.addi v2 c19_i32_2399
  let c32_i32_2400 : BitVec 32 := 32#32
  let v2515 : BitVec 32 := Scalar.remsi v2514 c32_i32_2400
  let c1_i32_2404 : BitVec 32 := 1#32
  let v2517 : BitVec 32 := Scalar.muli v2515 c1_i32_2404
  let v2518 : BitVec 32 := Scalar.addi c0_i32_2405 v2517
  v2518.toNat
def k0_dev144 (d0 : Dev nD) : Nat :=
  let c0_i32_2413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2407 : BitVec 32 := 20#32
  let v2524 : BitVec 32 := Scalar.addi v2 c20_i32_2407
  let c32_i32_2408 : BitVec 32 := 32#32
  let v2525 : BitVec 32 := Scalar.remsi v2524 c32_i32_2408
  let c1_i32_2412 : BitVec 32 := 1#32
  let v2527 : BitVec 32 := Scalar.muli v2525 c1_i32_2412
  let v2528 : BitVec 32 := Scalar.addi c0_i32_2413 v2527
  v2528.toNat
def k0_dev145 (d0 : Dev nD) : Nat :=
  let c0_i32_2421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2415 : BitVec 32 := 21#32
  let v2534 : BitVec 32 := Scalar.addi v2 c21_i32_2415
  let c32_i32_2416 : BitVec 32 := 32#32
  let v2535 : BitVec 32 := Scalar.remsi v2534 c32_i32_2416
  let c1_i32_2420 : BitVec 32 := 1#32
  let v2537 : BitVec 32 := Scalar.muli v2535 c1_i32_2420
  let v2538 : BitVec 32 := Scalar.addi c0_i32_2421 v2537
  v2538.toNat
def k0_dev146 (d0 : Dev nD) : Nat :=
  let c0_i32_2429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2423 : BitVec 32 := 22#32
  let v2544 : BitVec 32 := Scalar.addi v2 c22_i32_2423
  let c32_i32_2424 : BitVec 32 := 32#32
  let v2545 : BitVec 32 := Scalar.remsi v2544 c32_i32_2424
  let c1_i32_2428 : BitVec 32 := 1#32
  let v2547 : BitVec 32 := Scalar.muli v2545 c1_i32_2428
  let v2548 : BitVec 32 := Scalar.addi c0_i32_2429 v2547
  v2548.toNat
def k0_dev147 (d0 : Dev nD) : Nat :=
  let c0_i32_2437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2431 : BitVec 32 := 23#32
  let v2554 : BitVec 32 := Scalar.addi v2 c23_i32_2431
  let c32_i32_2432 : BitVec 32 := 32#32
  let v2555 : BitVec 32 := Scalar.remsi v2554 c32_i32_2432
  let c1_i32_2436 : BitVec 32 := 1#32
  let v2557 : BitVec 32 := Scalar.muli v2555 c1_i32_2436
  let v2558 : BitVec 32 := Scalar.addi c0_i32_2437 v2557
  v2558.toNat
def k0_dev148 (d0 : Dev nD) : Nat :=
  let c0_i32_2445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2439 : BitVec 32 := 24#32
  let v2564 : BitVec 32 := Scalar.addi v2 c24_i32_2439
  let c32_i32_2440 : BitVec 32 := 32#32
  let v2565 : BitVec 32 := Scalar.remsi v2564 c32_i32_2440
  let c1_i32_2444 : BitVec 32 := 1#32
  let v2567 : BitVec 32 := Scalar.muli v2565 c1_i32_2444
  let v2568 : BitVec 32 := Scalar.addi c0_i32_2445 v2567
  v2568.toNat
def k0_dev149 (d0 : Dev nD) : Nat :=
  let c0_i32_2453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2447 : BitVec 32 := 25#32
  let v2574 : BitVec 32 := Scalar.addi v2 c25_i32_2447
  let c32_i32_2448 : BitVec 32 := 32#32
  let v2575 : BitVec 32 := Scalar.remsi v2574 c32_i32_2448
  let c1_i32_2452 : BitVec 32 := 1#32
  let v2577 : BitVec 32 := Scalar.muli v2575 c1_i32_2452
  let v2578 : BitVec 32 := Scalar.addi c0_i32_2453 v2577
  v2578.toNat
def k0_dev150 (d0 : Dev nD) : Nat :=
  let c0_i32_2461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2455 : BitVec 32 := 26#32
  let v2584 : BitVec 32 := Scalar.addi v2 c26_i32_2455
  let c32_i32_2456 : BitVec 32 := 32#32
  let v2585 : BitVec 32 := Scalar.remsi v2584 c32_i32_2456
  let c1_i32_2460 : BitVec 32 := 1#32
  let v2587 : BitVec 32 := Scalar.muli v2585 c1_i32_2460
  let v2588 : BitVec 32 := Scalar.addi c0_i32_2461 v2587
  v2588.toNat
def k0_dev151 (d0 : Dev nD) : Nat :=
  let c0_i32_2469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2463 : BitVec 32 := 27#32
  let v2594 : BitVec 32 := Scalar.addi v2 c27_i32_2463
  let c32_i32_2464 : BitVec 32 := 32#32
  let v2595 : BitVec 32 := Scalar.remsi v2594 c32_i32_2464
  let c1_i32_2468 : BitVec 32 := 1#32
  let v2597 : BitVec 32 := Scalar.muli v2595 c1_i32_2468
  let v2598 : BitVec 32 := Scalar.addi c0_i32_2469 v2597
  v2598.toNat
def k0_dev152 (d0 : Dev nD) : Nat :=
  let c0_i32_2477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2471 : BitVec 32 := 28#32
  let v2604 : BitVec 32 := Scalar.addi v2 c28_i32_2471
  let c32_i32_2472 : BitVec 32 := 32#32
  let v2605 : BitVec 32 := Scalar.remsi v2604 c32_i32_2472
  let c1_i32_2476 : BitVec 32 := 1#32
  let v2607 : BitVec 32 := Scalar.muli v2605 c1_i32_2476
  let v2608 : BitVec 32 := Scalar.addi c0_i32_2477 v2607
  v2608.toNat
def k0_dev153 (d0 : Dev nD) : Nat :=
  let c0_i32_2485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2479 : BitVec 32 := 29#32
  let v2614 : BitVec 32 := Scalar.addi v2 c29_i32_2479
  let c32_i32_2480 : BitVec 32 := 32#32
  let v2615 : BitVec 32 := Scalar.remsi v2614 c32_i32_2480
  let c1_i32_2484 : BitVec 32 := 1#32
  let v2617 : BitVec 32 := Scalar.muli v2615 c1_i32_2484
  let v2618 : BitVec 32 := Scalar.addi c0_i32_2485 v2617
  v2618.toNat
def k0_dev154 (d0 : Dev nD) : Nat :=
  let c0_i32_2493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2487 : BitVec 32 := 30#32
  let v2624 : BitVec 32 := Scalar.addi v2 c30_i32_2487
  let c32_i32_2488 : BitVec 32 := 32#32
  let v2625 : BitVec 32 := Scalar.remsi v2624 c32_i32_2488
  let c1_i32_2492 : BitVec 32 := 1#32
  let v2627 : BitVec 32 := Scalar.muli v2625 c1_i32_2492
  let v2628 : BitVec 32 := Scalar.addi c0_i32_2493 v2627
  v2628.toNat
def k0_dev155 (d0 : Dev nD) : Nat :=
  let c0_i32_2501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2495 : BitVec 32 := 31#32
  let v2634 : BitVec 32 := Scalar.addi v2 c31_i32_2495
  let c32_i32_2496 : BitVec 32 := 32#32
  let v2635 : BitVec 32 := Scalar.remsi v2634 c32_i32_2496
  let c1_i32_2500 : BitVec 32 := 1#32
  let v2637 : BitVec 32 := Scalar.muli v2635 c1_i32_2500
  let v2638 : BitVec 32 := Scalar.addi c0_i32_2501 v2637
  v2638.toNat
def k0_dev156 (d0 : Dev nD) : Nat :=
  let c0_i32_2899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2892 : BitVec 32 := 1#32
  let v2975 : BitVec 32 := Scalar.addi v2 c1_i32_2892
  let c32_i32_2893 : BitVec 32 := 32#32
  let v2976 : BitVec 32 := Scalar.remsi v2975 c32_i32_2893
  let c1_i32_2898 : BitVec 32 := 1#32
  let v2978 : BitVec 32 := Scalar.muli v2976 c1_i32_2898
  let v2979 : BitVec 32 := Scalar.addi c0_i32_2899 v2978
  v2979.toNat
def k0_dev157 (d0 : Dev nD) : Nat :=
  let c0_i32_2910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2903 : BitVec 32 := 2#32
  let v2987 : BitVec 32 := Scalar.addi v2 c2_i32_2903
  let c32_i32_2904 : BitVec 32 := 32#32
  let v2988 : BitVec 32 := Scalar.remsi v2987 c32_i32_2904
  let c1_i32_2909 : BitVec 32 := 1#32
  let v2990 : BitVec 32 := Scalar.muli v2988 c1_i32_2909
  let v2991 : BitVec 32 := Scalar.addi c0_i32_2910 v2990
  v2991.toNat
def k0_dev158 (d0 : Dev nD) : Nat :=
  let c0_i32_2921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2914 : BitVec 32 := 3#32
  let v2999 : BitVec 32 := Scalar.addi v2 c3_i32_2914
  let c32_i32_2915 : BitVec 32 := 32#32
  let v3000 : BitVec 32 := Scalar.remsi v2999 c32_i32_2915
  let c1_i32_2920 : BitVec 32 := 1#32
  let v3002 : BitVec 32 := Scalar.muli v3000 c1_i32_2920
  let v3003 : BitVec 32 := Scalar.addi c0_i32_2921 v3002
  v3003.toNat
def k0_dev159 (d0 : Dev nD) : Nat :=
  let c0_i32_2932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2925 : BitVec 32 := 4#32
  let v3011 : BitVec 32 := Scalar.addi v2 c4_i32_2925
  let c32_i32_2926 : BitVec 32 := 32#32
  let v3012 : BitVec 32 := Scalar.remsi v3011 c32_i32_2926
  let c1_i32_2931 : BitVec 32 := 1#32
  let v3014 : BitVec 32 := Scalar.muli v3012 c1_i32_2931
  let v3015 : BitVec 32 := Scalar.addi c0_i32_2932 v3014
  v3015.toNat
def k0_dev160 (d0 : Dev nD) : Nat :=
  let c0_i32_2943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2936 : BitVec 32 := 5#32
  let v3023 : BitVec 32 := Scalar.addi v2 c5_i32_2936
  let c32_i32_2937 : BitVec 32 := 32#32
  let v3024 : BitVec 32 := Scalar.remsi v3023 c32_i32_2937
  let c1_i32_2942 : BitVec 32 := 1#32
  let v3026 : BitVec 32 := Scalar.muli v3024 c1_i32_2942
  let v3027 : BitVec 32 := Scalar.addi c0_i32_2943 v3026
  v3027.toNat
def k0_dev161 (d0 : Dev nD) : Nat :=
  let c0_i32_2954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2947 : BitVec 32 := 6#32
  let v3035 : BitVec 32 := Scalar.addi v2 c6_i32_2947
  let c32_i32_2948 : BitVec 32 := 32#32
  let v3036 : BitVec 32 := Scalar.remsi v3035 c32_i32_2948
  let c1_i32_2953 : BitVec 32 := 1#32
  let v3038 : BitVec 32 := Scalar.muli v3036 c1_i32_2953
  let v3039 : BitVec 32 := Scalar.addi c0_i32_2954 v3038
  v3039.toNat
def k0_dev162 (d0 : Dev nD) : Nat :=
  let c0_i32_2965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2958 : BitVec 32 := 7#32
  let v3047 : BitVec 32 := Scalar.addi v2 c7_i32_2958
  let c32_i32_2959 : BitVec 32 := 32#32
  let v3048 : BitVec 32 := Scalar.remsi v3047 c32_i32_2959
  let c1_i32_2964 : BitVec 32 := 1#32
  let v3050 : BitVec 32 := Scalar.muli v3048 c1_i32_2964
  let v3051 : BitVec 32 := Scalar.addi c0_i32_2965 v3050
  v3051.toNat
def k0_dev163 (d0 : Dev nD) : Nat :=
  let c0_i32_2976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2969 : BitVec 32 := 8#32
  let v3059 : BitVec 32 := Scalar.addi v2 c8_i32_2969
  let c32_i32_2970 : BitVec 32 := 32#32
  let v3060 : BitVec 32 := Scalar.remsi v3059 c32_i32_2970
  let c1_i32_2975 : BitVec 32 := 1#32
  let v3062 : BitVec 32 := Scalar.muli v3060 c1_i32_2975
  let v3063 : BitVec 32 := Scalar.addi c0_i32_2976 v3062
  v3063.toNat
def k0_dev164 (d0 : Dev nD) : Nat :=
  let c0_i32_2987 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2980 : BitVec 32 := 9#32
  let v3071 : BitVec 32 := Scalar.addi v2 c9_i32_2980
  let c32_i32_2981 : BitVec 32 := 32#32
  let v3072 : BitVec 32 := Scalar.remsi v3071 c32_i32_2981
  let c1_i32_2986 : BitVec 32 := 1#32
  let v3074 : BitVec 32 := Scalar.muli v3072 c1_i32_2986
  let v3075 : BitVec 32 := Scalar.addi c0_i32_2987 v3074
  v3075.toNat
def k0_dev165 (d0 : Dev nD) : Nat :=
  let c0_i32_2998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2991 : BitVec 32 := 10#32
  let v3083 : BitVec 32 := Scalar.addi v2 c10_i32_2991
  let c32_i32_2992 : BitVec 32 := 32#32
  let v3084 : BitVec 32 := Scalar.remsi v3083 c32_i32_2992
  let c1_i32_2997 : BitVec 32 := 1#32
  let v3086 : BitVec 32 := Scalar.muli v3084 c1_i32_2997
  let v3087 : BitVec 32 := Scalar.addi c0_i32_2998 v3086
  v3087.toNat
def k0_dev166 (d0 : Dev nD) : Nat :=
  let c0_i32_3009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3002 : BitVec 32 := 11#32
  let v3095 : BitVec 32 := Scalar.addi v2 c11_i32_3002
  let c32_i32_3003 : BitVec 32 := 32#32
  let v3096 : BitVec 32 := Scalar.remsi v3095 c32_i32_3003
  let c1_i32_3008 : BitVec 32 := 1#32
  let v3098 : BitVec 32 := Scalar.muli v3096 c1_i32_3008
  let v3099 : BitVec 32 := Scalar.addi c0_i32_3009 v3098
  v3099.toNat
def k0_dev167 (d0 : Dev nD) : Nat :=
  let c0_i32_3020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3013 : BitVec 32 := 12#32
  let v3107 : BitVec 32 := Scalar.addi v2 c12_i32_3013
  let c32_i32_3014 : BitVec 32 := 32#32
  let v3108 : BitVec 32 := Scalar.remsi v3107 c32_i32_3014
  let c1_i32_3019 : BitVec 32 := 1#32
  let v3110 : BitVec 32 := Scalar.muli v3108 c1_i32_3019
  let v3111 : BitVec 32 := Scalar.addi c0_i32_3020 v3110
  v3111.toNat
def k0_dev168 (d0 : Dev nD) : Nat :=
  let c0_i32_3031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3024 : BitVec 32 := 13#32
  let v3119 : BitVec 32 := Scalar.addi v2 c13_i32_3024
  let c32_i32_3025 : BitVec 32 := 32#32
  let v3120 : BitVec 32 := Scalar.remsi v3119 c32_i32_3025
  let c1_i32_3030 : BitVec 32 := 1#32
  let v3122 : BitVec 32 := Scalar.muli v3120 c1_i32_3030
  let v3123 : BitVec 32 := Scalar.addi c0_i32_3031 v3122
  v3123.toNat
def k0_dev169 (d0 : Dev nD) : Nat :=
  let c0_i32_3042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3035 : BitVec 32 := 14#32
  let v3131 : BitVec 32 := Scalar.addi v2 c14_i32_3035
  let c32_i32_3036 : BitVec 32 := 32#32
  let v3132 : BitVec 32 := Scalar.remsi v3131 c32_i32_3036
  let c1_i32_3041 : BitVec 32 := 1#32
  let v3134 : BitVec 32 := Scalar.muli v3132 c1_i32_3041
  let v3135 : BitVec 32 := Scalar.addi c0_i32_3042 v3134
  v3135.toNat
def k0_dev170 (d0 : Dev nD) : Nat :=
  let c0_i32_3053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3046 : BitVec 32 := 15#32
  let v3143 : BitVec 32 := Scalar.addi v2 c15_i32_3046
  let c32_i32_3047 : BitVec 32 := 32#32
  let v3144 : BitVec 32 := Scalar.remsi v3143 c32_i32_3047
  let c1_i32_3052 : BitVec 32 := 1#32
  let v3146 : BitVec 32 := Scalar.muli v3144 c1_i32_3052
  let v3147 : BitVec 32 := Scalar.addi c0_i32_3053 v3146
  v3147.toNat
def k0_dev171 (d0 : Dev nD) : Nat :=
  let c0_i32_3064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3057 : BitVec 32 := 16#32
  let v3155 : BitVec 32 := Scalar.addi v2 c16_i32_3057
  let c32_i32_3058 : BitVec 32 := 32#32
  let v3156 : BitVec 32 := Scalar.remsi v3155 c32_i32_3058
  let c1_i32_3063 : BitVec 32 := 1#32
  let v3158 : BitVec 32 := Scalar.muli v3156 c1_i32_3063
  let v3159 : BitVec 32 := Scalar.addi c0_i32_3064 v3158
  v3159.toNat
def k0_dev172 (d0 : Dev nD) : Nat :=
  let c0_i32_3075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3068 : BitVec 32 := 17#32
  let v3167 : BitVec 32 := Scalar.addi v2 c17_i32_3068
  let c32_i32_3069 : BitVec 32 := 32#32
  let v3168 : BitVec 32 := Scalar.remsi v3167 c32_i32_3069
  let c1_i32_3074 : BitVec 32 := 1#32
  let v3170 : BitVec 32 := Scalar.muli v3168 c1_i32_3074
  let v3171 : BitVec 32 := Scalar.addi c0_i32_3075 v3170
  v3171.toNat
def k0_dev173 (d0 : Dev nD) : Nat :=
  let c0_i32_3086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3079 : BitVec 32 := 18#32
  let v3179 : BitVec 32 := Scalar.addi v2 c18_i32_3079
  let c32_i32_3080 : BitVec 32 := 32#32
  let v3180 : BitVec 32 := Scalar.remsi v3179 c32_i32_3080
  let c1_i32_3085 : BitVec 32 := 1#32
  let v3182 : BitVec 32 := Scalar.muli v3180 c1_i32_3085
  let v3183 : BitVec 32 := Scalar.addi c0_i32_3086 v3182
  v3183.toNat
def k0_dev174 (d0 : Dev nD) : Nat :=
  let c0_i32_3097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3090 : BitVec 32 := 19#32
  let v3191 : BitVec 32 := Scalar.addi v2 c19_i32_3090
  let c32_i32_3091 : BitVec 32 := 32#32
  let v3192 : BitVec 32 := Scalar.remsi v3191 c32_i32_3091
  let c1_i32_3096 : BitVec 32 := 1#32
  let v3194 : BitVec 32 := Scalar.muli v3192 c1_i32_3096
  let v3195 : BitVec 32 := Scalar.addi c0_i32_3097 v3194
  v3195.toNat
def k0_dev175 (d0 : Dev nD) : Nat :=
  let c0_i32_3108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3101 : BitVec 32 := 20#32
  let v3203 : BitVec 32 := Scalar.addi v2 c20_i32_3101
  let c32_i32_3102 : BitVec 32 := 32#32
  let v3204 : BitVec 32 := Scalar.remsi v3203 c32_i32_3102
  let c1_i32_3107 : BitVec 32 := 1#32
  let v3206 : BitVec 32 := Scalar.muli v3204 c1_i32_3107
  let v3207 : BitVec 32 := Scalar.addi c0_i32_3108 v3206
  v3207.toNat
def k0_dev176 (d0 : Dev nD) : Nat :=
  let c0_i32_3119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3112 : BitVec 32 := 21#32
  let v3215 : BitVec 32 := Scalar.addi v2 c21_i32_3112
  let c32_i32_3113 : BitVec 32 := 32#32
  let v3216 : BitVec 32 := Scalar.remsi v3215 c32_i32_3113
  let c1_i32_3118 : BitVec 32 := 1#32
  let v3218 : BitVec 32 := Scalar.muli v3216 c1_i32_3118
  let v3219 : BitVec 32 := Scalar.addi c0_i32_3119 v3218
  v3219.toNat
def k0_dev177 (d0 : Dev nD) : Nat :=
  let c0_i32_3130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3123 : BitVec 32 := 22#32
  let v3227 : BitVec 32 := Scalar.addi v2 c22_i32_3123
  let c32_i32_3124 : BitVec 32 := 32#32
  let v3228 : BitVec 32 := Scalar.remsi v3227 c32_i32_3124
  let c1_i32_3129 : BitVec 32 := 1#32
  let v3230 : BitVec 32 := Scalar.muli v3228 c1_i32_3129
  let v3231 : BitVec 32 := Scalar.addi c0_i32_3130 v3230
  v3231.toNat
def k0_dev178 (d0 : Dev nD) : Nat :=
  let c0_i32_3141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3134 : BitVec 32 := 23#32
  let v3239 : BitVec 32 := Scalar.addi v2 c23_i32_3134
  let c32_i32_3135 : BitVec 32 := 32#32
  let v3240 : BitVec 32 := Scalar.remsi v3239 c32_i32_3135
  let c1_i32_3140 : BitVec 32 := 1#32
  let v3242 : BitVec 32 := Scalar.muli v3240 c1_i32_3140
  let v3243 : BitVec 32 := Scalar.addi c0_i32_3141 v3242
  v3243.toNat
def k0_dev179 (d0 : Dev nD) : Nat :=
  let c0_i32_3152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3145 : BitVec 32 := 24#32
  let v3251 : BitVec 32 := Scalar.addi v2 c24_i32_3145
  let c32_i32_3146 : BitVec 32 := 32#32
  let v3252 : BitVec 32 := Scalar.remsi v3251 c32_i32_3146
  let c1_i32_3151 : BitVec 32 := 1#32
  let v3254 : BitVec 32 := Scalar.muli v3252 c1_i32_3151
  let v3255 : BitVec 32 := Scalar.addi c0_i32_3152 v3254
  v3255.toNat
def k0_dev180 (d0 : Dev nD) : Nat :=
  let c0_i32_3163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3156 : BitVec 32 := 25#32
  let v3263 : BitVec 32 := Scalar.addi v2 c25_i32_3156
  let c32_i32_3157 : BitVec 32 := 32#32
  let v3264 : BitVec 32 := Scalar.remsi v3263 c32_i32_3157
  let c1_i32_3162 : BitVec 32 := 1#32
  let v3266 : BitVec 32 := Scalar.muli v3264 c1_i32_3162
  let v3267 : BitVec 32 := Scalar.addi c0_i32_3163 v3266
  v3267.toNat
def k0_dev181 (d0 : Dev nD) : Nat :=
  let c0_i32_3174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3167 : BitVec 32 := 26#32
  let v3275 : BitVec 32 := Scalar.addi v2 c26_i32_3167
  let c32_i32_3168 : BitVec 32 := 32#32
  let v3276 : BitVec 32 := Scalar.remsi v3275 c32_i32_3168
  let c1_i32_3173 : BitVec 32 := 1#32
  let v3278 : BitVec 32 := Scalar.muli v3276 c1_i32_3173
  let v3279 : BitVec 32 := Scalar.addi c0_i32_3174 v3278
  v3279.toNat
def k0_dev182 (d0 : Dev nD) : Nat :=
  let c0_i32_3185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3178 : BitVec 32 := 27#32
  let v3287 : BitVec 32 := Scalar.addi v2 c27_i32_3178
  let c32_i32_3179 : BitVec 32 := 32#32
  let v3288 : BitVec 32 := Scalar.remsi v3287 c32_i32_3179
  let c1_i32_3184 : BitVec 32 := 1#32
  let v3290 : BitVec 32 := Scalar.muli v3288 c1_i32_3184
  let v3291 : BitVec 32 := Scalar.addi c0_i32_3185 v3290
  v3291.toNat
def k0_dev183 (d0 : Dev nD) : Nat :=
  let c0_i32_3196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3189 : BitVec 32 := 28#32
  let v3299 : BitVec 32 := Scalar.addi v2 c28_i32_3189
  let c32_i32_3190 : BitVec 32 := 32#32
  let v3300 : BitVec 32 := Scalar.remsi v3299 c32_i32_3190
  let c1_i32_3195 : BitVec 32 := 1#32
  let v3302 : BitVec 32 := Scalar.muli v3300 c1_i32_3195
  let v3303 : BitVec 32 := Scalar.addi c0_i32_3196 v3302
  v3303.toNat
def k0_dev184 (d0 : Dev nD) : Nat :=
  let c0_i32_3207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3200 : BitVec 32 := 29#32
  let v3311 : BitVec 32 := Scalar.addi v2 c29_i32_3200
  let c32_i32_3201 : BitVec 32 := 32#32
  let v3312 : BitVec 32 := Scalar.remsi v3311 c32_i32_3201
  let c1_i32_3206 : BitVec 32 := 1#32
  let v3314 : BitVec 32 := Scalar.muli v3312 c1_i32_3206
  let v3315 : BitVec 32 := Scalar.addi c0_i32_3207 v3314
  v3315.toNat
def k0_dev185 (d0 : Dev nD) : Nat :=
  let c0_i32_3218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3211 : BitVec 32 := 30#32
  let v3323 : BitVec 32 := Scalar.addi v2 c30_i32_3211
  let c32_i32_3212 : BitVec 32 := 32#32
  let v3324 : BitVec 32 := Scalar.remsi v3323 c32_i32_3212
  let c1_i32_3217 : BitVec 32 := 1#32
  let v3326 : BitVec 32 := Scalar.muli v3324 c1_i32_3217
  let v3327 : BitVec 32 := Scalar.addi c0_i32_3218 v3326
  v3327.toNat
def k0_dev186 (d0 : Dev nD) : Nat :=
  let c0_i32_3229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3222 : BitVec 32 := 31#32
  let v3335 : BitVec 32 := Scalar.addi v2 c31_i32_3222
  let c32_i32_3223 : BitVec 32 := 32#32
  let v3336 : BitVec 32 := Scalar.remsi v3335 c32_i32_3223
  let c1_i32_3228 : BitVec 32 := 1#32
  let v3338 : BitVec 32 := Scalar.muli v3336 c1_i32_3228
  let v3339 : BitVec 32 := Scalar.addi c0_i32_3229 v3338
  v3339.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x1024 : Shape := ⟨2, ![64, 1024]⟩
abbrev S1024x65536 : Shape := ⟨2, ![1024, 65536]⟩
abbrev S65536x1024 : Shape := ⟨2, ![65536, 1024]⟩
abbrev S64x65536 : Shape := ⟨2, ![64, 65536]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x65536, .f32⟩
  | .hbm, ⟨2, _⟩ => ⟨S1024x65536, .f32⟩
  | .hbm, ⟨3, _⟩ => ⟨S1024x65536, .f32⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S64x65536, .f32⟩
  | .hbm, ⟨8, _⟩ => ⟨S_, .f32⟩
  | .hbm, ⟨9, _⟩ => ⟨S64x65536, .f32⟩
  | .hbm, ⟨10, _⟩ => ⟨S64x65536, .f32⟩
  | .hbm, ⟨11, _⟩ => ⟨S64x1024, .f32⟩
  | .hbm, ⟨12, _⟩ => ⟨S64x65536, .f32⟩
  | .hbm, ⟨13, _⟩ => ⟨S_, .f32⟩
  | .hbm, ⟨14, _⟩ => ⟨S64x65536, .f32⟩
  | .hbm, ⟨15, _⟩ => ⟨S64x65536, .f32⟩
  | .hbm, ⟨16, _⟩ => ⟨S64x1024, .f32⟩
  | .hbm, ⟨17, _⟩ => ⟨S64x65536, .f32⟩
  | .hbm, ⟨18, _⟩ => ⟨S_, .f32⟩
  | .hbm, ⟨19, _⟩ => ⟨S64x65536, .f32⟩
  | .hbm, ⟨20, _⟩ => ⟨S64x65536, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Prog.lean ====
/-
# The kernel body as loops over the 31 offsets

The printed body is straight-line text: every exchange is written out 31 times, once per device offset. This module
writes the same body as a handful of loops over the offsets `1 … 31` (`prog`) and shows that the two are the same
program (`body_eq`). Everything else in the proof is about `prog`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions

@[expose] public section

noncomputable section

namespace Cert.MlpProof

open Cert.KernelIdeal Cert.KernelIdeal.Gen
open Idealize.ShloMosaic Idealize.ShloMosaic.TcCoe
open Idealize.SL Idealize.SL.Sem

variable {F : FTy → Type} [FloatOps F]

/-- A program of the TensorCore's, returning `α`. -/
abbrev Code (F : FTy → Type) [FloatOps F] : Type → Type 1 := Prog (TpuEff nD τ sig (Elt F) Λ₀ .tc)

/-! ## Buffers and semaphores -/

abbrev xM : Memref sig .tc .vmem S64x1024 .f32 := Memref.whole cc0_stg0_0
abbrev wi0M : Memref sig .tc .vmem S1024x2048 .f32 := Memref.whole cc0_stg1_0
abbrev wo0M : Memref sig .tc .vmem S2048x1024 .f32 := Memref.whole cc0_stg2_0
abbrev wi1M : Memref sig .tc .vmem S1024x2048 .f32 := Memref.whole cc0_stg3_0
abbrev wo1M : Memref sig .tc .vmem S2048x1024 .f32 := Memref.whole cc0_stg4_0
abbrev wi2M : Memref sig .tc .vmem S1024x2048 .f32 := Memref.whole cc0_stg5_0
abbrev wo2M : Memref sig .tc .vmem S2048x1024 .f32 := Memref.whole cc0_stg6_0
abbrev outM : Memref sig .tc .vmem S2x1024 .f32 := Memref.whole cc0_stg7_0
/-- This device's partial product, all 64 rows. -/
abbrev partM : Memref sig .tc .vmem S64x1024 .bf16 := Memref.whole cc0_scratch0
/-- The 32 landing slots of the reduce-scatter. -/
abbrev rsM : Memref sig .tc .vmem S32x2x1024 .bf16 := Memref.whole cc0_scratch1
/-- This device's two reduced rows. -/
abbrev redM : Memref sig .tc .vmem S2x1024 .bf16 := Memref.whole cc0_scratch2
/-- The next layer's input, all 64 rows. -/
abbrev xnM : Memref sig .tc .vmem S64x1024 .bf16 := Memref.whole cc0_scratch3

/-- The barrier semaphore. -/
abbrev barS : Sem sig := (SemArray.scalar (sig.barrier 0 rfl) : Sems sig S_).sem
/-- The local copies' semaphore. -/
abbrev locS : DmaSem sig := (cc0_scratch8 : DmaSems sig S_).sem

/-! ## Places -/

theorem slot_inb (n : Fin 32) : ∀ a, (![n.val, 0, 0] : Fin 3 → Nat) a + S1x2x1024.size a ≤ S32x2x1024.size a := by
  revert n; decide +kernel
theorem slot_words (n : Fin 32) :
    (Rect.unit (s := S32x2x1024) ![n.val, 0, 0] S1x2x1024.size (slot_inb n)).WholeWords (EltTy.packing .bf16) := by
  revert n; decide +kernel
theorem sem_inb (n : Fin 32) : ∀ a, (![n.val] : Fin 1 → Nat) a + S1.size a ≤ S32.size a := by
  revert n; decide +kernel

/-- Landing slot `n`, as the `1×2×1024` block it is in the buffer. -/
abbrev slotRect (n : Fin 32) : Rect S32x2x1024 := Rect.unit (s := S32x2x1024) ![n.val, 0, 0] S1x2x1024.size (slot_inb n)
/-- Landing slot `n`, two rows of 1024. -/
abbrev slotM (n : Fin 32) : Memref sig .tc .vmem S2x1024 .bf16 :=
  (rsM.slice (slotRect n) (fun _ => rfl)).squeeze S2x1024 squeezes_S1x2x1024_S2x1024
/-- Cell `n` of an array of 32 DMA semaphores. -/
abbrev semAt (A : DmaSems sig S32) (n : Fin 32) : DmaSem sig :=
  ((A.slice (Rect.unit (s := S32) ![n.val] S1.size (sem_inb n))).squeeze S_ squeezes_S1_S_).sem

/-- The offset of a two-row block of a `64×1024` buffer, with what its slice asks. -/
structure RowOff where
  o : Fin 2 → Nat
  inb : ∀ a, o a + S2x1024.size a ≤ S64x1024.size a
  words : (Rect.unit (s := S64x1024) o S2x1024.size inb).WholeWords (EltTy.packing .bf16)

/-- The two rows at `o` of the partial product. -/
abbrev RowOff.part (o : RowOff) : Memref sig .tc .vmem S2x1024 .bf16 :=
  partM.slice (Rect.unit (s := S64x1024) o.o S2x1024.size o.inb) (fun _ => rfl)
/-- The two rows at `o` of the next layer's input. -/
abbrev RowOff.xn (o : RowOff) : Memref sig .tc .vmem S2x1024 .bf16 :=
  xnM.slice (Rect.unit (s := S64x1024) o.o S2x1024.size o.inb) (fun _ => rfl)

abbrev partWhole : partM.IsWhole := Memref.isWhole_whole _
abbrev rsWhole : rsM.IsWhole := Memref.isWhole_whole _
abbrev redWhole : redM.IsWhole := Memref.isWhole_whole _
abbrev xnWhole : xnM.IsWhole := Memref.isWhole_whole _

theorem part_we (o : RowOff) : o.part.view.WordExact := partWhole.wordExact_slice rfl _ o.words
theorem xn_we (o : RowOff) : o.xn.view.WordExact := xnWhole.wordExact_slice rfl _ o.words
theorem slot_we (n : Fin 32) : (slotM n).view.WordExact := (rsWhole.wordExact_slice rfl _ (slot_words n)).reshape _ _
theorem red_we : redM.view.WordExact := redWhole.wordExact

/-! ## The loops -/

/-- The offsets, in the order the kernel goes through them (`j` stands for the offset `j + 1`). -/
def offs : List (Fin 31) :=
  [⟨0, by decide⟩, ⟨1, by decide⟩, ⟨2, by decide⟩, ⟨3, by decide⟩, ⟨4, by decide⟩, ⟨5, by decide⟩, ⟨6, by decide⟩,
   ⟨7, by decide⟩, ⟨8, by decide⟩, ⟨9, by decide⟩, ⟨10, by decide⟩, ⟨11, by decide⟩, ⟨12, by decide⟩, ⟨13, by decide⟩,
   ⟨14, by decide⟩, ⟨15, by decide⟩, ⟨16, by decide⟩, ⟨17, by decide⟩, ⟨18, by decide⟩, ⟨19, by decide⟩,
   ⟨20, by decide⟩, ⟨21, by decide⟩, ⟨22, by decide⟩, ⟨23, by decide⟩, ⟨24, by decide⟩, ⟨25, by decide⟩,
   ⟨26, by decide⟩, ⟨27, by decide⟩, ⟨28, by decide⟩, ⟨29, by decide⟩, ⟨30, by decide⟩]

/-- `f` at every index of `l` in turn, then `K`. -/
def loopK (f : Fin 31 → Code F PUnit) (K : Code F PUnit) : List (Fin 31) → Code F PUnit
  | [] => K
  | j :: l => f j >>= fun _ => loopK f K l

/-- The same with a value carried along. -/
def accK {α : Type} (f : α → Fin 31 → Code F α) (K : α → Code F PUnit) : List (Fin 31) → α → Code F PUnit
  | [], v => K v
  | j :: l, v => f v j >>= fun v' => accK f K l v'

/-! ## The pieces -/

/-- One signal of the barrier. -/
abbrev sigAt (dev : Fin 31 → Dev nD) (j : Fin 31) : Code F PUnit := semSignalWord (dev j) barS 1#32

/-- One remote copy of the reduce-scatter: the block at `oth j` of the partial product into slot `j + 1` of `dev j`. -/
abbrev rsSendAt (dev : Fin 31 → Dev nD) (oth : Fin 31 → RowOff) (j : Fin 31) : Code F PUnit :=
  Prog.lift (.enqueueDma (oth j).part (.remote (Dev.tc (dev j)) (slotM j.succ) (.dma (semAt cc0_scratch4 j.succ)))
    (.dma (semAt cc0_scratch5 j.succ)) (part_we (oth j)) (slot_we j.succ) ⟨⟨rfl, Or.inl rfl⟩, trivial⟩)

/-- The reduce-scatter's local copy: this device's own block into slot 0. -/
abbrev rsLocal (own : RowOff) : Code F PUnit :=
  Prog.lift (.enqueueDma own.part (.here (slotM 0)) (.dma locS) (part_we own) (slot_we 0) ⟨Or.inl rfl, trivial⟩)

abbrev rsWaitLocal (own : RowOff) : Code F PUnit :=
  Prog.lift (.waitDma2 locS own.part (slotM 0) (part_we own) (slot_we 0))

abbrev rsWaitAt (oth : Fin 31 → RowOff) (j : Fin 31) : Code F PUnit :=
  Prog.lift (.waitDma2 (semAt cc0_scratch5 j.succ) (oth j).part (slotM j.succ) (part_we (oth j)) (slot_we j.succ))

abbrev slotLoad (n : Fin 32) : Code F (Vec F S1x2x1024 .bf16) :=
  Prog.lift (.load rsM (slotRect n).toLoadRect (View.loadsAt_vmem h_S1x2x1024))

/-- What a loaded slot adds to the sum. -/
def slotVal (v : Vec F S1x2x1024 .bf16) : FVec F S2x1024 .f32 :=
  extf .f32 (shapeCast S2x1024 v shapeCasts_S1x2x1024_S2x1024) bitsLt_bf16_f32

/-- Wait for slot `j + 1`, load it, add it to the sum. -/
abbrev rsAccAt (oth : Fin 31 → RowOff) (acc : FVec F S2x1024 .f32) (j : Fin 31) : Code F (FVec F S2x1024 .f32) := do
  rsWaitAt oth j
  let v ← slotLoad j.succ
  pure (addf acc (slotVal v))

abbrev rsSendWaitAt (oth : Fin 31 → RowOff) (j : Fin 31) : Code F PUnit :=
  Prog.lift (.waitDma2 (semAt cc0_scratch4 j.succ) (slotM j.succ) (oth j).part (slot_we j.succ) (part_we (oth j)))

/-- One remote copy of the all-gather: this device's two reduced rows into their place on `dev j`. -/
abbrev agSendAt (dev : Fin 31 → Dev nD) (own : RowOff) (j : Fin 31) : Code F PUnit :=
  Prog.lift (.enqueueDma redM (.remote (Dev.tc (dev j)) own.xn (.dma (semAt cc0_scratch6 j.succ)))
    (.dma (semAt cc0_scratch7 j.succ)) red_we (xn_we own) ⟨⟨rfl, Or.inl rfl⟩, trivial⟩)

abbrev agLocal (own : RowOff) : Code F PUnit :=
  Prog.lift (.enqueueDma redM (.here own.xn) (.dma locS) red_we (xn_we own) ⟨Or.inl rfl, trivial⟩)

abbrev agWaitLocal (own : RowOff) : Code F PUnit :=
  Prog.lift (.waitDma2 locS redM own.xn red_we (xn_we own))

abbrev agWaitAt (own : RowOff) (j : Fin 31) : Code F PUnit :=
  Prog.lift (.waitDma2 (semAt cc0_scratch7 j.succ) redM own.xn red_we (xn_we own))

abbrev agSendWaitAt (own : RowOff) (j : Fin 31) : Code F PUnit :=
  Prog.lift (.waitDma2 (semAt cc0_scratch6 j.succ) own.xn redM (xn_we own) red_we)

/-- A whole `64×1024` buffer's rectangle, and so on for the other shapes. -/
abbrev rect64 : Rect S64x1024 := Rect.unit (s := S64x1024) ![0, 0] S64x1024.size inb_S64x1024_S64x1024_0_0
abbrev rect2 : Rect S2x1024 := Rect.unit (s := S2x1024) ![0, 0] S2x1024.size inb_S2x1024_S2x1024_0_0
abbrev rectIn : Rect S1024x2048 := Rect.unit (s := S1024x2048) ![0, 0] S1024x2048.size inb_S1024x2048_S1024x2048_0_0
abbrev rectOut : Rect S2048x1024 := Rect.unit (s := S2048x1024) ![0, 0] S2048x1024.size inb_S2048x1024_S2048x1024_0_0

abbrev loadIn (m : Memref sig .tc .vmem S1024x2048 .f32) : Code F (Vec F S1024x2048 .f32) :=
  Prog.lift (.load m rectIn.toLoadRect (View.loadsAt_vmem h_S1024x2048))
abbrev loadOut (m : Memref sig .tc .vmem S2048x1024 .f32) : Code F (Vec F S2048x1024 .f32) :=
  Prog.lift (.load m rectOut.toLoadRect (View.loadsAt_vmem h_S2048x1024))
abbrev loadPart : Code F (Vec F S64x1024 .bf16) :=
  Prog.lift (.load partM rect64.toLoadRect (View.loadsAt_vmem h_S64x1024))
abbrev storePart (v : FVec F S64x1024 .bf16) : Code F PUnit :=
  Prog.lift (.store partM rect64 v Finset.univ
    (View.stores_vmem h_S64x1024 (partWhole.storeExact_slice rfl _ packedbf16_S64x1024_S64x1024_0_0) (fun _ => rfl)) (.inl rfl))
abbrev loadRed : Code F (Vec F S2x1024 .bf16) :=
  Prog.lift (.load redM rect2.toLoadRect (View.loadsAt_vmem h_S2x1024))
abbrev storeRed (v : FVec F S2x1024 .bf16) : Code F PUnit :=
  Prog.lift (.store redM rect2 v Finset.univ
    (View.stores_vmem h_S2x1024 (redWhole.storeExact_slice rfl _ packedbf16_S2x1024_S2x1024_0_0) (fun _ => rfl)) (.inl rfl))

/-- What a sum of slots is stored as between layers. -/
def redVal (acc : FVec F S2x1024 .f32) : FVec F S2x1024 .bf16 :=
  shapeCast S2x1024 (truncf .bf16 acc bitsLt_bf16_f32) shapeCasts_S2x1024_S2x1024

/-! ## The phases -/

/-- Store the partial product and start the reduce-scatter. -/
def rsStart (dev : Fin 31 → Dev nD) (own : RowOff) (oth : Fin 31 → RowOff) (v : FVec F S64x1024 .bf16)
    (K : Code F PUnit) : Code F PUnit := do
  let _ ← loadPart
  storePart v
  rsLocal own
  loopK (rsSendAt dev oth) K offs

/-- Sum the 32 slots as they land. -/
def rsFold (own : RowOff) (oth : Fin 31 → RowOff) (K : FVec F S2x1024 .f32 → Code F PUnit) : Code F PUnit := do
  rsWaitLocal own
  let v ← slotLoad 0
  accK (rsAccAt oth) K offs (slotVal v)

/-- Store the reduced rows, send them to everyone and wait for everyone's. -/
def gather (dev : Fin 31 → Dev nD) (own : RowOff) (acc : FVec F S2x1024 .f32) (K : Code F PUnit) : Code F PUnit := do
  let _ ← loadRed
  storeRed (redVal acc)
  agLocal own
  loopK (agSendAt dev own) (do agWaitLocal own; loopK (agWaitAt own) K offs) offs

/-- A later layer's partial product: from the gathered input and the layer's two weights. -/
def partOf (xv : Vec F S64x1024 .bf16) (wi : Vec F S1024x2048 .f32) (wo : Vec F S2048x1024 .f32) : FVec F S64x1024 .bf16 :=
  k0_pay17 (k0_pay16 xv wi wo)

/-- The last layer: its reduce-scatter, its result, and the waits for the copies still on their way. -/
def layer2 (dev : Fin 31 → Dev nD) (own : RowOff) (oth : Fin 31 → RowOff) : Code F PUnit := do
  let xv ← Prog.lift (.load xnM rect64.toLoadRect (View.loadsAt_vmem h_S64x1024))
  let wi ← loadIn wi2M
  let wo ← loadOut wo2M
  loopK (rsSendWaitAt oth)
    (rsStart dev own oth (partOf xv wi wo) (rsFold own oth fun acc => do
      let _ ← Prog.lift (.load outM rect2.toLoadRect (View.loadsAt_vmem h_S2x1024))
      Prog.lift (.store outM rect2 acc Finset.univ (View.stores_vmem_bits_univ h_S2x1024 rfl) (.inl rfl))
      loopK (agSendWaitAt own) (loopK (rsSendWaitAt oth) (pure ⟨⟩) offs) offs)) offs

/-- The middle layer. -/
def layer1 (dev : Fin 31 → Dev nD) (own : RowOff) (oth : Fin 31 → RowOff) : Code F PUnit := do
  let xv ← Prog.lift (.load xnM rect64.toLoadRect (View.loadsAt_vmem h_S64x1024))
  let wi ← loadIn wi1M
  let wo ← loadOut wo1M
  loopK (rsSendWaitAt oth)
    (rsStart dev own oth (partOf xv wi wo) (rsFold own oth fun acc =>
      loopK (agSendWaitAt own) (gather dev own acc (layer2 dev own oth)) offs)) offs

/-- The first layer, behind the barrier. -/
def layer0 (dev : Fin 31 → Dev nD) (own : RowOff) (oth : Fin 31 → RowOff) : Code F PUnit :=
  loopK (sigAt dev) (do
    let xv ← Prog.lift (.load xM rect64.toLoadRect (View.loadsAt_vmem h_S64x1024))
    let wi ← loadIn wi0M
    let wo ← loadOut wo0M
    semWaitWord barS 31#32
    rsStart dev own oth (k0_pay1 xv wi wo) (rsFold own oth fun acc =>
      gather dev own acc (layer1 dev own oth))) offs

/-! ## The printed body -/

/-- The printed device number at offset `j + 1`. -/
def devWord (d0 : Dev nD) (j : Fin 31) : Nat :=
  (Scalar.addi 0#32 (Scalar.muli (Scalar.remsi (Scalar.addi (Scalar.remsi (Scalar.divsi (Dev.word d0) 1#32) 32#32)
    (BitVec.ofNat 32 (1 + j.val))) 32#32) 1#32)).toNat

/-- The device `j + 1` places after `c` round the ring of 32. -/
def nb (c : Dev nD) (j : Fin 31) : Dev nD := ⟨(c.val + j.val + 1) % 32, Nat.mod_lt _ (by decide)⟩

theorem devWord_eq (d0 : Dev nD) (j : Fin 31) : devWord d0 j = (nb d0 j).val := by
  revert j; revert d0; decide +kernel
theorem devWord_lt (d0 : Dev nD) (j : Fin 31) : devWord d0 j < nD := by
  rw [devWord_eq]; exact (nb d0 j).isLt

/-- The printed body as loops, at the printed device numbers and offsets. -/
def prog : Code F PUnit := do
  let d0 ← Prog.lift .deviceId
  layer0 (fun j => ⟨devWord d0 j, devWord_lt d0 j⟩) ⟨k0_off1 d0, k0_off1_inb d0, k0_off1_wordsbf16 d0⟩
    (fun j => ⟨k0_off2 d0 (BitVec.ofNat 32 (1 + j.val)), k0_off2_inb d0 j, k0_off2_wordsbf16 d0 j⟩)

set_option maxRecDepth 1000000 in
/-- The body the pipeline runs is `prog`. -/
theorem body_eq : bodyAt0 (F := F) t0_0 = prog := by
  chain_rfl

end Cert.MlpProof

end
-- ==== Proof.Sched.lean ====
/-
# The cross-device protocol

The devices stand on a ring of 32; index `j` stands for the offset `j + 1`, so device `c` sends its `j`-th copy to
`nb c j`, and that copy's receiver hears it at index `j` too: the sender seen from the receiver is `nb · (rev j)`.

Every semaphore is a cell with rounds; in each round it has its duties, each a payer, an amount and what it hands over.

* The barrier cell of `A` (one round, 31 duties of 1): device `nb A (rev j)` pays duty `j` and hands `A` the slot of its
  own that `A`'s copies land in and row block `A` of its next-layer input.
* `rsR j` on `c` (round `r` is layer `r`): the landing of the copy from `p = nb c (rev j)`, whose content is block `c` of
  `p`'s partial product of layer `r`. In round 1 it also hands over row block `c` of `p`'s next-layer input, which `p` has
  read by then.
* `agR j` on `c` (round `r` is layer `r`): the landing of `p`'s reduced rows of layer `r` in row block `p` of `c`'s
  next-layer input; with it comes the slot of `p` that `c`'s next copy lands in, which `p` has read by then.
* `rsS j`, `agS j` on `c`: the source of that copy comes back.
* `loc` on `c`: the two local copies of a layer, one round each.
-/
module

public import proofs.«01_k».proof.Proof.Prog
public import Idealize.ShloMosaic.Lib.Pipeline.Launch
public import Idealize.ShloMosaic.Lib.Pipeline.Kit
public import Idealize.ShloMosaic.Lib.Tactic

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- The pipeline's rounds, and this protocol's with 31 duty names. -/
abbrev UU : Type := UR sig nD τ × URounds (GSem nD τ sig) (Fin 31)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 31)) (MT nD τ sig ℕ (Elt F) ℕ UU ℕ) := embR

/-! ## The ring -/

/-- The index of the offset that leads back. -/
def rev (j : Fin 31) : Fin 31 := ⟨30 - j.val, by omega⟩

theorem rev_rev (j : Fin 31) : rev (rev j) = j := by apply Fin.ext; have := j.isLt; simp only [rev]; omega
theorem nb_rev (c : Dev nD) (j : Fin 31) : nb (nb c j) (rev j) = c := by
  apply Fin.ext; have := j.isLt; have hc : c.val < 32 := c.isLt
  simp only [rev, nb]; omega
theorem nb_rev' (c : Dev nD) (j : Fin 31) : nb (nb c (rev j)) j = c := by
  conv_lhs => rw [← rev_rev j]
  rw [rev_rev (rev j)]; exact nb_rev c (rev j)
theorem nb_ne (c : Dev nD) (j : Fin 31) : nb c j ≠ c := by
  intro h; have h := congrArg Fin.val h; have := j.isLt; have hc : c.val < 32 := c.isLt
  simp only [nb] at h; omega
theorem nb_inj (c : Dev nD) : Function.Injective (nb c) := by
  intro j k h; have h := congrArg Fin.val h; have := j.isLt; have := k.isLt; have hc : c.val < 32 := c.isLt
  apply Fin.ext; simp only [nb] at h; omega
theorem nb_surj (c d : Dev nD) (h : d ≠ c) : ∃ j, nb c j = d := by
  have hc : c.val < 32 := c.isLt
  have hd : d.val < 32 := d.isLt
  have h' : d.val ≠ c.val := fun e => h (Fin.ext e)
  refine ⟨⟨(d.val + 31 - c.val) % 32, by omega⟩, Fin.ext ?_⟩
  simp only [nb]; omega

/-- Going round by a fixed offset, as a permutation of the devices. -/
def turn (j : Fin 31) : Dev nD ≃ Dev nD := ⟨fun c => nb c j, fun c => nb c (rev j), fun c => nb_rev c j, fun c => nb_rev' c j⟩

/-- Going back, as a permutation of the offsets. -/
def revE : Fin 31 ≃ Fin 31 := ⟨rev, rev, rev_rev, rev_rev⟩

/-! ## The row blocks -/

theorem row_inb (b : Dev nD) : ∀ a, (![2 * b.val, 0] : Fin 2 → Nat) a + S2x1024.size a ≤ S64x1024.size a := by
  revert b; decide +kernel
theorem row_words (b : Dev nD) :
    (Rect.unit (s := S64x1024) ![2 * b.val, 0] S2x1024.size (row_inb b)).WholeWords (EltTy.packing .bf16) := by
  revert b; decide +kernel

/-- The two rows of device `b`. -/
def rowAt (b : Dev nD) : RowOff := ⟨![2 * b.val, 0], row_inb b, row_words b⟩

theorem RowOff.ext' {a b : RowOff} (h : a.o = b.o) : a = b := by cases a; cases b; cases h; rfl

/-- The body at a device: its copies go round the ring and its row blocks are the devices'. -/
theorem prog_eq : (prog : Code F PUnit)
    = (Prog.lift .deviceId >>= fun d0 => layer0 (nb d0) (rowAt d0) (fun j => rowAt (nb d0 j))) := by
  unfold prog
  congr 1
  funext d0
  have h1 : (fun j => (⟨devWord d0 j, devWord_lt d0 j⟩ : Dev nD)) = nb d0 := funext fun j => Fin.ext (devWord_eq d0 j)
  have h2 : (⟨k0_off1 d0, k0_off1_inb d0, k0_off1_wordsbf16 d0⟩ : RowOff) = rowAt d0 := RowOff.ext' (k0_off1_eq d0)
  have h3 : (fun j : Fin 31 => (⟨k0_off2 d0 (BitVec.ofNat 32 (1 + j.val)), k0_off2_inb d0 j, k0_off2_wordsbf16 d0 j⟩ : RowOff))
      = fun j => rowAt (nb d0 j) := funext fun j => RowOff.ext' (k0_off2_eq d0 j)
  rw [h1, h2, h3]

/-! ## The cells -/

/-- What a semaphore is for. -/
inductive Kind where
  | bar | rsS (j : Fin 31) | rsR (j : Fin 31) | agS (j : Fin 31) | agR (j : Fin 31) | loc | other

/-- The purpose of each semaphore: of the four arrays of 32, entry 0 is not used. -/
def kindOf : SemLoc sig → Kind
  | .reg _ => .bar
  | .dma n =>
    if n.val < 8 then .other
    else if n.val = 136 then .loc
    else if h : (n.val - 8) % 32 = 0 then .other
    else
      let j : Fin 31 := ⟨(n.val - 8) % 32 - 1, by omega⟩
      if n.val < 40 then .rsS j else if n.val < 72 then .rsR j else if n.val < 104 then .agS j else .agR j

abbrev rsSm (j : Fin 31) : DmaSem sig := semAt cc0_scratch4 j.succ
abbrev rsRm (j : Fin 31) : DmaSem sig := semAt cc0_scratch5 j.succ
abbrev agSm (j : Fin 31) : DmaSem sig := semAt cc0_scratch6 j.succ
abbrev agRm (j : Fin 31) : DmaSem sig := semAt cc0_scratch7 j.succ

theorem kind_bar : kindOf (.reg barS) = .bar := rfl
theorem kind_rsS (j : Fin 31) : kindOf (.dma (rsSm j)) = .rsS j := by fin_cases j <;> rfl
theorem kind_rsR (j : Fin 31) : kindOf (.dma (rsRm j)) = .rsR j := by fin_cases j <;> rfl
theorem kind_agS (j : Fin 31) : kindOf (.dma (agSm j)) = .agS j := by fin_cases j <;> rfl
theorem kind_agR (j : Fin 31) : kindOf (.dma (agRm j)) = .agR j := by fin_cases j <;> rfl
theorem kind_loc : kindOf (.dma locS) = .loc := rfl

abbrev barC (c : Dev nD) : GSem nD τ sig := ((c : Thread nD τ), .reg barS)
abbrev rsSC (c : Dev nD) (j : Fin 31) : GSem nD τ sig := ((c : Thread nD τ), .dma (rsSm j))
abbrev rsRC (c : Dev nD) (j : Fin 31) : GSem nD τ sig := ((c : Thread nD τ), .dma (rsRm j))
abbrev agSC (c : Dev nD) (j : Fin 31) : GSem nD τ sig := ((c : Thread nD τ), .dma (agSm j))
abbrev agRC (c : Dev nD) (j : Fin 31) : GSem nD τ sig := ((c : Thread nD τ), .dma (agRm j))
abbrev locC (c : Dev nD) : GSem nD τ sig := ((c : Thread nD τ), .dma locS)

/-- What a copy of a two-row block credits. -/
abbrev N : ℕ := redM.view.dmaCredit
theorem N_pos : 0 < N := View.dmaCredit_pos _ (by decide)
theorem cred_slot (n : Fin 32) : (slotM n).view.dmaCredit = N := rfl
theorem cred_part (o : RowOff) : o.part.view.dmaCredit = N := rfl
theorem cred_xn (o : RowOff) : o.xn.view.dmaCredit = N := rfl

/-! ## Contents -/

/-- Two rows of the layer's output before the last rounding. -/
abbrev Rows (F : FTy → Type) [FloatOps F] : Type := S2x1024.Idx → Elt F .bf16
/-- All 64 rows. -/
abbrev Full (F : FTy → Type) [FloatOps F] : Type := S64x1024.Idx → Elt F .bf16

/-- Row block `b` of `v`. -/
def blk (v : Full F) (b : Dev nD) : Rows F := (rowAt b).part.view.read (Elt F) v

/-- The 64 rows made of every device's two. -/
def xOf (R : Dev nD → Rows F) : Full F := fun i =>
  R ⟨(i 0).val / 2, by have h : (i 0).val < 64 := (i 0).isLt; show _ < 32; omega⟩
    (fun a => match a with
      | ⟨0, _⟩ => ⟨(i 0).val % 2, Nat.mod_lt _ (by decide)⟩
      | ⟨1, _⟩ => i 1)

/-! ## The schedule -/

/-- A slot of device `c`, at any contents. -/
def slotAny (c : Dev nD) (n : Fin 32) : sProp 𝕄 := iprop(∃ X : Rows F, owns (c : Thread nD τ) (slotM n) fullShare X)
/-- Row block `b` of device `c`'s next-layer input, at any contents. -/
def xrowAny (c b : Dev nD) : sProp 𝕄 := iprop(∃ X : Rows F, owns (c : Thread nD τ) (rowAt b).xn fullShare X)

instance slotAny_storable (c : Dev nD) (n : Fin 32) : BI.Storable (upEmb : UEmb _ 𝕄) (slotAny (F := F) c n) := by
  unfold slotAny; infer_instance
instance xrowAny_storable (c b : Dev nD) : BI.Storable (upEmb : UEmb _ 𝕄) (xrowAny (F := F) c b) := by
  unfold xrowAny; infer_instance

/-- What device `A` needs of device `nb A k` for its first copies there. -/
def perm (A : Dev nD) (k : Fin 31) : sProp 𝕄 := iprop(slotAny (F := F) (nb A k) k.succ ∗ xrowAny (F := F) (nb A k) A)

/-- The share of the reduced rows that stays for the local copy, and the `j`-th remote copy's. -/
abbrev qLoc : PosShare TreeShare := Transfers.shareDrop fullShare 31
abbrev qRem (j : Fin 31) : PosShare TreeShare := Transfers.shareTok fullShare 31 j

variable (P : ℕ → Dev nD → Full F) (R : ℕ → Dev nD → Rows F)

/-- What else a reduce-scatter landing hands over: in round 1, the sender's row block of the receiver. -/
def rsExtra (c p : Dev nD) (j : Fin 31) (r : ℕ) : sProp 𝕄 :=
  if r = 1 then iprop(xrowAny (F := F) p c ∗ reached ER (agRC p (rev j)) 1) else iprop(emp)

instance rsExtra_storable (c p : Dev nD) (j : Fin 31) (r : ℕ) : BI.Storable (upEmb : UEmb _ 𝕄) (rsExtra (F := F) c p j r) := by
  unfold rsExtra; split <;> infer_instance

def rsPay (c p : Dev nD) (j : Fin 31) (r : ℕ) : sProp 𝕄 :=
  iprop(owns (c : Thread nD τ) (slotM j.succ) fullShare (blk (P r p) c) ∗ rsExtra c p j r)

def agPay (c p : Dev nD) (j : Fin 31) (r : ℕ) : sProp 𝕄 :=
  iprop(owns (c : Thread nD τ) (rowAt p).xn fullShare (R r p)
    ∗ slotAny (F := F) p (rev j).succ ∗ reached ER (rsRC p (rev j)) (r + 1))

def rsSPay (c : Dev nD) (j : Fin 31) (r : ℕ) : sProp 𝕄 :=
  owns (c : Thread nD τ) (rowAt (nb c j)).part fullShare (blk (P r c) (nb c j))

def agSPay (c : Dev nD) (j : Fin 31) (r : ℕ) : sProp 𝕄 := owns (c : Thread nD τ) redM (qRem j) (R r c)

/-- The local copy of the reduce-scatter of layer `r`, and of its all-gather. -/
def locRs (c : Dev nD) (r : ℕ) : sProp 𝕄 :=
  iprop(owns (c : Thread nD τ) (slotM 0) fullShare (blk (P r c) c)
    ∗ owns (c : Thread nD τ) (rowAt c).part fullShare (blk (P r c) c))
def locAg (c : Dev nD) (r : ℕ) : sProp 𝕄 :=
  iprop(owns (c : Thread nD τ) (rowAt c).xn fullShare (R r c) ∗ owns (c : Thread nD τ) redM qLoc (R r c))

def payK (c : Dev nD) : Kind → ℕ → Fin 31 → sProp 𝕄
  | .bar, _, d => perm c (rev d)
  | .rsS j, r, _ => rsSPay P c j r
  | .rsR j, r, _ => rsPay P c (nb c (rev j)) j r
  | .agS j, r, _ => agSPay R c j r
  | .agR j, r, _ => agPay R c (nb c (rev j)) j r
  | .loc, r, _ => if r % 2 = 0 then locRs P c (r / 2) else locAg R c (r / 2)
  | .other, _, _ => iprop(emp)

instance payK_storable (c : Dev nD) (k : Kind) (r : ℕ) (d : Fin 31) : BI.Storable (upEmb : UEmb _ 𝕄) (payK P R c k r d) := by
  cases k <;> simp only [payK] <;> (try split) <;>
    first
      | infer_instance
      | (unfold perm; infer_instance)
      | (unfold rsSPay; infer_instance)
      | (unfold rsPay; infer_instance)
      | (unfold agSPay; infer_instance)
      | (unfold agPay; infer_instance)
      | (unfold locRs; infer_instance)
      | (unfold locAg; infer_instance)

/-- How many rounds a cell of each kind has. -/
def nRounds : Kind → ℕ
  | .bar => 1 | .rsS _ => 3 | .rsR _ => 3 | .agS _ => 2 | .agR _ => 2 | .loc => 5 | .other => 0
def dutiesK : Kind → Finset (Fin 31)
  | .bar => Finset.univ
  | _ => {0}
def amountK : Kind → ℕ
  | .bar => 1
  | _ => N

theorem amountK_pos (k : Kind) : 0 < amountK k := by cases k <;> first | exact Nat.one_pos | exact N_pos

/-- The protocol. -/
def Rd : Rounds.Schedule (GSem nD τ sig) (Fin 31) 𝕄 where
  duties g r := if g.1.2 = .tc ∧ r < nRounds (kindOf g.2) then dutiesK (kindOf g.2) else ∅
  unitless _ := False
  amount g _ _ := amountK (kindOf g.2)
  payload g r d := payK P R g.1.1 (kindOf g.2) r d
  amount_pos g _ _ _ := amountK_pos _

instance Rd_storable (g : GSem nD τ sig) (r : ℕ) (d : Fin 31) : BI.Storable (upEmb : UEmb _ 𝕄) ((Rd P R).payload g r d) :=
  payK_storable P R g.1.1 (kindOf g.2) r d

/-- A semaphore of device `c` of kind `k`: its duties, amounts and payloads. -/
theorem duties_of {sm : SemLoc sig} {k : Kind} (hk : kindOf sm = k) (c : Dev nD) {r : ℕ} (hr : r < nRounds k) :
    (Rd P R).duties ((c : Thread nD τ), sm) r = dutiesK k := by
  subst hk; exact if_pos ⟨rfl, hr⟩
theorem duties_done {sm : SemLoc sig} {k : Kind} (hk : kindOf sm = k) (c : Dev nD) (r : ℕ) (hr : nRounds k ≤ r) :
    (Rd P R).duties ((c : Thread nD τ), sm) r = ∅ := by
  subst hk; exact if_neg fun h => absurd h.2 (Nat.not_lt.2 hr)
theorem amount_of {sm : SemLoc sig} {k : Kind} (hk : kindOf sm = k) (c : Dev nD) (r : ℕ) (d : Fin 31) :
    (Rd P R).amount ((c : Thread nD τ), sm) r d = amountK k := by
  subst hk; rfl
theorem payload_of {sm : SemLoc sig} {k : Kind} (hk : kindOf sm = k) (c : Dev nD) (r : ℕ) (d : Fin 31) :
    (Rd P R).payload ((c : Thread nD τ), sm) r d = payK P R c k r d := by
  subst hk; rfl
theorem expect_of {sm : SemLoc sig} {k : Kind} (hk : kindOf sm = k) (c : Dev nD) {r : ℕ} (hr : r < nRounds k) :
    (Rd P R).expect ((c : Thread nD τ), sm) r = (dutiesK k).card * amountK k := by
  unfold Schedule.expect Schedule.amountOf
  rw [duties_of P R hk c hr, Finset.sum_congr rfl (fun d _ => amount_of P R hk c r d), Finset.sum_const, smul_eq_mul]

/-! ## Levels -/

/-- The indices of the tensor cores' cells: the layer. -/
def L (g : GSem nD τ sig) : Finset ℕ := if g.1.2 = .tc then Finset.range 3 else ∅
def lvK : Kind → ℕ → ℕ
  | .bar, _ => 1
  | .rsR _, u => 2 + 2 * u
  | .agR _, u => 3 + 2 * u
  | _, _ => 0
/-- The order in which the cells are waited for: barrier, then layer by layer reduce-scatter and all-gather. -/
def lv (g : GSem nD τ sig) (u : ℕ) : ℕ := lvK (kindOf g.2) u

/-- The levels, as the assertion every device holds. -/
@[irreducible] def Lev : sProp 𝕄 := levAts L lv

instance Lev_persistent : BI.Persistent (Lev (F := F)) := by unfold Lev; infer_instance

theorem L_of_ne (g : GSem nD τ sig) (h : g.1.2 ≠ .tc) : L g = ∅ := if_neg h
theorem L_tc (c : Dev nD) (sm : SemLoc sig) : L ((c : Thread nD τ), sm) = Finset.range 3 := if_pos rfl

/-- Everything in `O` is owed to cells waited for after level `n`. -/
def Above (n : ℕ) (O : CellTallies nD τ sig ℕ) : Prop := ∀ g u, 0 < O g u → u ∈ L g ∧ n < lv g u

theorem Above.zero (n : ℕ) : Above n 0 := fun g u h => absurd h (Nat.lt_irrefl 0)
theorem Above.add {n : ℕ} {O D : CellTallies nD τ sig ℕ} (h : Above n O) (h' : Above n D) : Above n (O + D) := fun g u hg => by
  rw [Pi.add_apply, Finsupp.add_apply] at hg
  rcases Nat.eq_zero_or_pos (O g u) with h0 | h0
  · rw [h0, Nat.zero_add] at hg; exact h' g u hg
  · exact h g u h0
theorem Above.tally {n u k : ℕ} {c : Dev nD} {sm : SemLoc sig} (hu : u < 3) (h : n < lvK (kindOf sm) u) :
    Above n (tallyAt ((c : Thread nD τ), sm) u k) := fun g v hg => by
  rw [tallyAt_apply] at hg
  by_cases e : g = ((c : Thread nD τ), sm) ∧ v = u
  · rw [e.1, e.2, L_tc]; exact ⟨Finset.mem_range.2 hu, h⟩
  · rw [if_neg e] at hg; exact absurd hg (Nat.lt_irrefl 0)
theorem Above.mono {n n' : ℕ} {O : CellTallies nD τ sig ℕ} (h : Above n O) (hn : n' ≤ n) : Above n' O := fun g u hg =>
  ⟨(h g u hg).1, lt_of_le_of_lt hn (h g u hg).2⟩

theorem mayWait_of {c : Dev nD} {sm : SemLoc sig} {ι n : ℕ} (hι : ι < 3) (hl : lvK (kindOf sm) ι ≤ n)
    {O : CellTallies nD τ sig ℕ} (hO : Above n O) :
    Lev (F := F) ⊢ MayWait (c : Thread nD τ) sm ι O := by
  unfold Lev
  exact MayOwe.of_cut (L := L) (lev := lv) n (fun p hp => by rw [Finset.mem_singleton.mp hp, L_tc]; exact Finset.mem_range.2 hι)
    (fun g u hg => (hO g u hg).1) (fun p hp => by rw [Finset.mem_singleton.mp hp]; exact hl) (fun g u hg => (hO g u hg).2)

/-! ## What each device owes -/

/-- The signals at the offsets `l`. -/
def owBar (c : Dev nD) : List (Fin 31) → CellTallies nD τ sig ℕ
  | [] => 0
  | j :: l => owBar c l + tallyAt (barC (nb c j)) 0 1
/-- The reduce-scatter copies of layer `r` at the offsets `l`. -/
def owRs (c : Dev nD) (r : ℕ) : List (Fin 31) → CellTallies nD τ sig ℕ
  | [] => 0
  | j :: l => owRs c r l + tallyAt (rsRC (nb c j) j) r N
/-- The all-gather copies of layer `r` at the offsets `l`. -/
def owAg (c : Dev nD) (r : ℕ) : List (Fin 31) → CellTallies nD τ sig ℕ
  | [] => 0
  | j :: l => owAg c r l + tallyAt (agRC (nb c j) j) r N

/-- What is owed after the first, second, … exchange. -/
def owe5 (c : Dev nD) : CellTallies nD τ sig ℕ := owRs c 2 offs
def owe4 (c : Dev nD) : CellTallies nD τ sig ℕ := owAg c 1 offs + owe5 c
def owe3 (c : Dev nD) : CellTallies nD τ sig ℕ := owRs c 1 offs + owe4 c
def owe2 (c : Dev nD) : CellTallies nD τ sig ℕ := owAg c 0 offs + owe3 c
def owe1 (c : Dev nD) : CellTallies nD τ sig ℕ := owRs c 0 offs + owe2 c
/-- What a device owes at launch: all its signals and remote copies. -/
def O₀ (c : Dev nD) : CellTallies nD τ sig ℕ := owBar c offs + owe1 c

theorem above_bar (c : Dev nD) (l : List (Fin 31)) : Above 0 (owBar c l) := by
  induction l with
  | nil => exact Above.zero 0
  | cons j l ih => exact ih.add (Above.tally (by decide) (by decide))
theorem above_rs (c : Dev nD) {r : ℕ} (hr : r < 3) (l : List (Fin 31)) : Above (1 + 2 * r) (owRs c r l) := by
  induction l with
  | nil => exact Above.zero _
  | cons j l ih => exact ih.add (Above.tally hr (by rw [kind_rsR]; simp only [lvK]; omega))
theorem above_ag (c : Dev nD) {r : ℕ} (hr : r < 3) (l : List (Fin 31)) : Above (2 + 2 * r) (owAg c r l) := by
  induction l with
  | nil => exact Above.zero _
  | cons j l ih => exact ih.add (Above.tally hr (by rw [kind_agR]; simp only [lvK]; omega))

theorem above5 (c : Dev nD) : Above 5 (owe5 c) := above_rs c (by decide) offs
theorem above4 (c : Dev nD) : Above 4 (owe4 c) := (above_ag c (by decide) offs).add ((above5 c).mono (by decide))
theorem above3 (c : Dev nD) : Above 3 (owe3 c) := (above_rs c (by decide) offs).add ((above4 c).mono (by decide))
theorem above2 (c : Dev nD) : Above 2 (owe2 c) := (above_ag c (by decide) offs).add ((above3 c).mono (by decide))
theorem above1 (c : Dev nD) : Above 1 (owe1 c) := (above_rs c (by decide) offs).add ((above2 c).mono (by decide))
theorem above0 (c : Dev nD) : Above 0 (O₀ c) := (above_bar c offs).add ((above1 c).mono (by decide))

end Cert.MlpProof

end
-- ==== Proof.Steps.lean ====
/-
# One step of the body

What each of the body's operations does to the resources a device holds: the remote copy, the local copy, the waits,
the signal, the loads and stores; and how a step repeated over the 31 offsets adds up to a loop.
-/
module

public import proofs.«01_k».proof.Proof.Sched

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- Device `c` runs `e` and ends in `Q`. -/
abbrev wpc (c : Dev nD) (e : Code F PUnit) (Q : PUnit.{1} → sProp 𝕄) : sProp 𝕄 :=
  wp frame (wpE (defs₀ (F := F)) 𝒱₀ (c : Thread nD τ) none) Set.univ e Q

/-- Device `c` owes `O`. -/
abbrev owesE (c : Dev nD) (O : CellTallies nD τ sig ℕ) : sProp 𝕄 := iprop(∃ W, owes (c : Thread nD τ) O W)

/-- The owner of cell `g` stands at the start of round `r`. -/
abbrev atRound (g : GSem nD τ sig) (r : ℕ) : sProp 𝕄 := iprop(atPos ER g r ∅ 0 ∗ reached ER g r)

/-! ## One assertion per offset -/

/-- `Φ` at every offset of `l`. -/
def bigL : List (Fin 31) → (Fin 31 → sProp 𝕄) → sProp 𝕄
  | [], _ => iprop(emp)
  | j :: l, Φ => iprop(Φ j ∗ bigL l Φ)

theorem bigL_eq_toFinset (l : List (Fin 31)) (hl : l.Nodup) (Φ : Fin 31 → sProp 𝕄) : bigL l Φ = bigSep l.toFinset Φ := by
  induction l with
  | nil => rw [List.toFinset_nil, bigSep_empty]; rfl
  | cons j l ih =>
    obtain ⟨hj, hl⟩ := List.nodup_cons.1 hl
    rw [List.toFinset_cons, bigSep_insert (fun h => hj (List.mem_toFinset.1 h)), ← ih hl]
    rfl

theorem offs_nodup : offs.Nodup := by decide
theorem offs_all : offs.toFinset = Finset.univ := by decide +kernel

theorem bigL_offs (Φ : Fin 31 → sProp 𝕄) : bigL offs Φ = bigSep Finset.univ Φ := by
  rw [bigL_eq_toFinset _ offs_nodup, offs_all]

theorem bigL_sep (Φ Ψ : Fin 31 → sProp 𝕄) : bigL offs (fun j => iprop(Φ j ∗ Ψ j)) = iprop(bigL offs Φ ∗ bigL offs Ψ) := by
  rw [bigL_offs, bigL_offs, bigL_offs]; exact bigSep_sep _ _ _

theorem bigL_mono {Φ Ψ : Fin 31 → sProp 𝕄} (h : ∀ j, Φ j ⊢ Ψ j) : bigL offs Φ ⊢ bigL offs Ψ := by
  rw [bigL_offs, bigL_offs]; exact bigSep_mono fun j _ => h j

/-- Going through the offsets backwards. -/
theorem bigL_rev (Φ : Fin 31 → sProp 𝕄) : bigL offs Φ = bigL offs (fun j => Φ (rev j)) := by
  rw [bigL_offs, bigL_offs]; exact bigSep_univ_equiv revE Φ

theorem bigL_with {G : sProp 𝕄} [BI.Persistent G] {Φ Ψ : Fin 31 → sProp 𝕄} (h : ∀ j, iprop(G ∗ Φ j) ⊢ Ψ j) :
    iprop(G ∗ bigL offs Φ) ⊢ bigL offs Ψ := by
  rw [bigL_offs, bigL_offs]; exact bigSep_with_persistent fun j _ => h j

/-! ## Loops -/

section Loops

/-- A loop whose every step turns `pre j` into `post j`, with `C` of what is left carried along. -/
theorem wp_loopK (c : Dev nD) (G : sProp 𝕄) [BI.Persistent G] (pre post : Fin 31 → sProp 𝕄)
    (C : List (Fin 31) → sProp 𝕄) (Q : PUnit → sProp 𝕄) (f : Fin 31 → Code F PUnit) (K : Code F PUnit)
    (hstep : ∀ (j : Fin 31) (l : List (Fin 31)) (e : Code F PUnit),
      iprop(G ∗ pre j ∗ C (j :: l)) ⊢ iprop(((post j ∗ C l) -∗ wpc c e Q) -∗ wpc c (f j >>= fun _ => e) Q))
    (l : List (Fin 31)) :
    iprop(G ∗ bigL l pre ∗ C l) ⊢ iprop(((bigL l post ∗ C []) -∗ wpc c K Q) -∗ wpc c (loopK f K l) Q) := by
  induction l with
  | nil =>
    unfold bigL
    iintro ⟨-, -, HC⟩ Hk
    iapply Hk
    isplitr; · iempintro
    iexact HC
  | cons j l ih =>
    unfold bigL
    rw [show loopK f K (j :: l) = (f j >>= fun _ => loopK f K l) from rfl]
    iintro ⟨#HG, ⟨Hp, Hps⟩, HC⟩ Hk
    iapply (hstep j l (loopK f K l)) $$ [Hp HC]
    · isplitr; · iexact HG
      isplitl [Hp]; · iexact Hp
      iexact HC
    iintro ⟨Hq, HC⟩
    iapply ih $$ [Hps HC]
    · isplitr; · iexact HG
      isplitl [Hps]; · iexact Hps
      iexact HC
    iintro ⟨Hqs, HC⟩
    iapply Hk
    isplitl [Hq Hqs]
    · isplitl [Hq]; · iexact Hq
      iexact Hqs
    iexact HC

/-- The same with a value that each step passes through `g`. -/
theorem wp_accK (c : Dev nD) (G : sProp 𝕄) [BI.Persistent G] (pre post : Fin 31 → sProp 𝕄)
    (C : List (Fin 31) → sProp 𝕄) (Q : PUnit → sProp 𝕄) {α : Type} (f : α → Fin 31 → Code F α) (g : α → Fin 31 → α) (K : α → Code F PUnit)
    (hstep : ∀ (v : α) (j : Fin 31) (l : List (Fin 31)) (e : α → Code F PUnit),
      iprop(G ∗ pre j ∗ C (j :: l)) ⊢ iprop(((post j ∗ C l) -∗ wpc c (e (g v j)) Q) -∗ wpc c (f v j >>= e) Q))
    (l : List (Fin 31)) : ∀ v : α,
    iprop(G ∗ bigL l pre ∗ C l) ⊢ iprop(((bigL l post ∗ C []) -∗ wpc c (K (l.foldl g v)) Q) -∗ wpc c (accK f K l v) Q) := by
  induction l with
  | nil =>
    intro v
    unfold bigL
    iintro ⟨-, -, HC⟩ Hk
    iapply Hk
    isplitr; · iempintro
    iexact HC
  | cons j l ih =>
    intro v
    unfold bigL
    rw [show accK f K (j :: l) v = (f v j >>= fun v' => accK f K l v') from rfl]
    iintro ⟨#HG, ⟨Hp, Hps⟩, HC⟩ Hk
    iapply (hstep v j l (fun v' => accK f K l v')) $$ [Hp HC]
    · isplitr; · iexact HG
      isplitl [Hp]; · iexact Hp
      iexact HC
    iintro ⟨Hq, HC⟩
    iapply (ih (g v j)) $$ [Hps HC]
    · isplitr; · iexact HG
      isplitl [Hps]; · iexact Hps
      iexact HC
    iintro ⟨Hqs, HC⟩
    iapply Hk
    isplitl [Hq Hqs]
    · isplitl [Hq]; · iexact Hq
      iexact Hqs
    iexact HC

end Loops

/-! ## What everyone knows -/

/-- The semaphores the launch gives the kernel: the arrays and the local copies' one. -/
abbrev osem : Fin 129 → SemLoc sig := fun k => .dma ⟨8 + k.val, by have := k.isLt; show _ < 137; omega⟩
abbrev kcell (ck : Dev nD × Fin 129) : GSem nD τ sig := ((ck.1 : Thread nD τ), osem ck.2)

variable (P : ℕ → Dev nD → Full F) (R : ℕ → Dev nD → Rows F)

/-- A cell is under the protocol and its round 0 is open. -/
def known (g : GSem nD τ sig) : sProp 𝕄 := iprop((∃ κ, cellInv ER (Rd P R) κ g) ∗ reached ER g 0)

instance known_persistent (g : GSem nD τ sig) : BI.Persistent (known P R g) := by unfold known; infer_instance

/-- Every cell is under the protocol; the levels. -/
def Ctx : sProp 𝕄 :=
  iprop((bigSep Finset.univ fun ck : Dev nD × Fin 129 => known P R (kcell ck))
    ∗ (bigSep Finset.univ fun c : Dev nD => known P R (barC c)) ∗ Lev)

instance Ctx_persistent : BI.Persistent (Ctx P R) := by unfold Ctx; infer_instance

/-- A semaphore of the protocol. -/
def IsOwn (sm : SemLoc sig) : Prop := (∃ k, osem k = sm) ∨ sm = .reg barS

theorem own_rsS (j : Fin 31) : IsOwn (.dma (rsSm j)) := .inl ⟨⟨1 + j.val, by omega⟩, by fin_cases j <;> rfl⟩
theorem own_rsR (j : Fin 31) : IsOwn (.dma (rsRm j)) := .inl ⟨⟨33 + j.val, by omega⟩, by fin_cases j <;> rfl⟩
theorem own_agS (j : Fin 31) : IsOwn (.dma (agSm j)) := .inl ⟨⟨65 + j.val, by omega⟩, by fin_cases j <;> rfl⟩
theorem own_agR (j : Fin 31) : IsOwn (.dma (agRm j)) := .inl ⟨⟨97 + j.val, by omega⟩, by fin_cases j <;> rfl⟩
theorem own_loc : IsOwn (.dma locS) := .inl ⟨⟨128, by omega⟩, rfl⟩
theorem own_bar : IsOwn (.reg barS) := .inr rfl

theorem ctx_known {sm : SemLoc sig} (h : IsOwn sm) (c : Dev nD) : Ctx P R ⊢ known P R ((c : Thread nD τ), sm) := by
  unfold Ctx
  rcases h with ⟨k, rfl⟩ | rfl
  · iintro ⟨H, -, -⟩
    iapply (show (bigSep Finset.univ fun ck : Dev nD × Fin 129 => known P R (kcell ck)) ⊢ known P R (kcell (c, k)) from
      bigSep_elim (Finset.mem_univ _))
    iexact H
  · iintro ⟨-, H, -⟩
    iapply (show (bigSep Finset.univ fun c : Dev nD => known P R (barC c)) ⊢ known P R (barC c) from
      bigSep_elim (Finset.mem_univ _))
    iexact H

theorem ctx_lev : Ctx P R ⊢ Lev := by
  unfold Ctx; iintro ⟨-, -, H⟩; iexact H

theorem ctx_reached {sm : SemLoc sig} (h : IsOwn sm) (c : Dev nD) :
    Ctx P R ⊢ (reached ER ((c : Thread nD τ), sm) 0 : sProp 𝕄) := by
  refine (ctx_known P R h c).trans ?_
  unfold known; iintro ⟨-, H⟩; iexact H

/-! ## The steps -/

section Step

/-- A remote copy: the source's share goes to the own send cell, the destination with `G` to the receiver's cell. -/
theorem step_send {c : Dev nD} {Q : PUnit → sProp 𝕄} {k : PUnit → Code F PUnit} {c' : Dev nD} {src dst : Memref sig .tc .vmem S2x1024 .bf16} {sS sR : DmaSem sig}
    {hsc : (dst : Memref sig (Dev.tc c' : Thread nD τ).2.kind .vmem S2x1024 .bf16).view.ref.isScScratch = false}
    {hsrc : src.view.WordExact} {hdst : dst.view.WordExact}
    {hsem : DmaTarget.Typed .vmem (.dma sR) (.remote (Dev.tc c' : Thread nD τ) dst (.dma sS) hsc)}
    {kS kR : Kind} (hkS : kindOf (.dma sS) = kS) (hkR : kindOf (.dma sR) = kR)
    (hoS : IsOwn (.dma sS)) (hoR : IsOwn (.dma sR)) {r : ℕ}
    (hrS : r < nRounds kS) (hrR : r < nRounds kR) (haS : amountK kS = N) (haR : amountK kR = N)
    (hdS : dutiesK kS = {0}) (hdR : dutiesK kR = {0}) (hN : dst.view.dmaCredit = N)
    {q : PosShare TreeShare} {X : Rows F} {G : sProp 𝕄} {O : CellTallies nD τ sig ℕ}
    (hp₁ : owns (c : Thread nD τ) src q X ⊢ payK P R c kS r 0)
    (hp₂ : iprop(owns (c' : Thread nD τ) dst fullShare X ∗ G) ⊢ payK P R c' kR r 0) :
    iprop(Ctx P R ∗ owns (c : Thread nD τ) src q X ∗ (∃ Y : Rows F, owns (c' : Thread nD τ) dst fullShare Y) ∗ G
        ∗ owesE c (O + tallyAt ((c' : Thread nD τ), .dma sR) r N)
        ∗ (dutyTok ER ((c : Thread nD τ), .dma sS) r 0 ∗ reached ER ((c : Thread nD τ), .dma sS) r)
        ∗ dutyTok ER ((c' : Thread nD τ), .dma sR) r 0 ∗ reached ER ((c' : Thread nD τ), .dma sR) r)
      ⊢ iprop(((cred (tallyAt ((c : Thread nD τ), .dma sS) 0 N) ∗ owesE c O) -∗ wpc c (k ⟨⟩) Q)
          -∗ wpc c (.op (.enqueueDma src (.remote (Dev.tc c' : Thread nD τ) dst (.dma sS) hsc) (.dma sR) hsrc hdst hsem) k) Q) := by
  have hp₁' : owns (c : Thread nD τ) src q X ⊢ (Rd P R).payload ((c : Thread nD τ), .dma sS) r 0 := by
    rw [payload_of P R hkS]; exact hp₁
  have hp₂' : iprop(owns (c' : Thread nD τ) dst fullShare X ∗ G) ⊢ (Rd P R).payload ((c' : Thread nD τ), .dma sR) r 0 := by
    rw [payload_of P R hkR]; exact hp₂
  unfold owns at hp₁' hp₂' ⊢
  iintro ⟨#HC, ⟨%fs, %hfs, Hs⟩, ⟨%Y, %fd, -, Hd⟩, HG, ⟨%W, HO⟩, ⟨HtS, HrS⟩, HtR, HrR⟩ Hk
  ihave HkS := (ctx_known P R hoS c) $$ HC
  ihave HkR := (ctx_known P R hoR c') $$ HC
  unfold known
  icases HkS with ⟨⟨%κ₁, HI₁⟩, -⟩
  icases HkR with ⟨⟨%κ₂, HI₂⟩, -⟩
  iapply (Rounds.wp_send_pointsTo_with 𝒱₀ ER (Rd P R) (c : Thread nD τ) none (κ₁ := κ₁) (κ₂ := κ₂) (c' := (c' : Thread nD τ)) (sS := .dma sS) (sem := .dma sR)
      (src := src) (dst := dst) (q := q) (fs := fs) (fd := fd) (F := G)
      (r₁ := r) (r₂ := r) (d₁ := 0) (d₂ := 0)
      (by rw [duties_of P R hkS c hrS, hdS]; exact Finset.mem_singleton_self _)
      (by rw [duties_of P R hkR c' hrR, hdR]; exact Finset.mem_singleton_self _)
      r 0 N hN ((amount_of P R hkS c r 0).trans haS) ((amount_of P R hkR c' r 0).trans haR) O rfl (W := W)
      (by
        refine BIBase.Entails.trans ?_ hp₁'
        iintro H; iexists fs; isplitr; · (ipureintro; exact hfs)
        iexact H)
      (by
        refine BIBase.Entails.trans ?_ hp₂'
        iintro ⟨H, HG⟩
        isplitl [H]
        · iexists _
          isplitr; swap; · iexact H
          ipureintro
          exact (View.read_write_univ fd _).trans hfs
        iexact HG)) $$ [HI₁ HI₂ Hs Hd HG HO HtS HrS HtR HrR]
  · isplitl [HI₁]; · iexact HI₁
    isplitl [HI₂]; · iexact HI₂
    isplitl [Hs]; · iexact Hs
    isplitl [Hd HG]
    · isplitl [Hd]; · iexact Hd
      iexact HG
    isplitl [HO]; · iexact HO
    isplitl [HtS]; · iexact HtS
    isplitl [HrS]; · iexact HrS
    isplitl [HtR]; · iexact HtR
    iexact HrR
  iintro ⟨Hc, HO⟩
  iapply Hk
  isplitl [Hc]; · iexact Hc
  iexists W; iexact HO

/-- A local copy. -/
theorem step_copy {c : Dev nD} {Q : PUnit → sProp 𝕄} {k : PUnit → Code F PUnit} {src dst : Memref sig .tc .vmem S2x1024 .bf16} {sm : DmaSem sig}
    {hsrc : src.view.WordExact} {hdst : dst.view.WordExact}
    {hsem : DmaTarget.Typed (nD := nD) (τ := τ) (p := .tc) .vmem (.dma sm) (.here dst)}
    {kd : Kind} (hk : kindOf (.dma sm) = kd) (ho : IsOwn (.dma sm)) {r : ℕ} (hr : r < nRounds kd)
    (ha : amountK kd = N) (hd : dutiesK kd = {0}) (hN : dst.view.dmaCredit = N)
    {q : PosShare TreeShare} {X : Rows F}
    (hp : iprop(owns (c : Thread nD τ) dst fullShare X ∗ owns (c : Thread nD τ) src q X) ⊢ payK P R c kd r 0) :
    iprop(Ctx P R ∗ owns (c : Thread nD τ) src q X ∗ (∃ Y : Rows F, owns (c : Thread nD τ) dst fullShare Y)
        ∗ dutyTok ER ((c : Thread nD τ), .dma sm) r 0 ∗ reached ER ((c : Thread nD τ), .dma sm) r)
      ⊢ iprop((cred (tallyAt ((c : Thread nD τ), .dma sm) 0 N) -∗ wpc c (k ⟨⟩) Q)
          -∗ wpc c (.op (.enqueueDma src (.here dst) (.dma sm) hsrc hdst hsem) k) Q) := by
  have hp' : iprop(owns (c : Thread nD τ) dst fullShare X ∗ owns (c : Thread nD τ) src q X)
      ⊢ (Rd P R).payload ((c : Thread nD τ), .dma sm) r 0 := by
    rw [payload_of P R hk]; exact hp
  unfold owns at hp' ⊢
  iintro ⟨#HC, ⟨%fs, %hfs, Hs⟩, ⟨%Y, %fd, -, Hd⟩, Ht, Hr⟩ Hk
  ihave Hk' := (ctx_known P R ho c) $$ HC
  unfold known
  icases Hk' with ⟨⟨%κ, HI⟩, -⟩
  iapply (Rounds.wp_copy_pointsTo 𝒱₀ ER (Rd P R) (c : Thread nD τ) none (κ := κ) (sem := .dma sm)
      (src := src) (dst := dst) (q := q) (fs := fs) (fd := fd) (r := r) (d := 0)
      (by rw [duties_of P R hk c hr, hd]; exact Finset.mem_singleton_self _)
      0 N hN ((amount_of P R hk c r 0).trans ha)
      (by
        refine BIBase.Entails.trans ?_ hp'
        iintro ⟨H, Hs⟩
        isplitl [H]
        · iexists _
          isplitr; swap; · iexact H
          ipureintro
          exact (View.read_write_univ fd _).trans hfs
        iexists fs; isplitr; · (ipureintro; exact hfs)
        iexact Hs)) $$ [HI Hs Hd Ht Hr]
  · isplitl [HI]; · iexact HI
    isplitl [Hs]; · iexact Hs
    isplitl [Hd]; · iexact Hd
    isplitl [Ht]; · iexact Ht
    iexact Hr
  iintro Hc
  iapply Hk; iexact Hc

/-- A wait for a copy's landing, or for a copy's source. -/
theorem step_wait {c : Dev nD} {Q : PUnit → sProp 𝕄} {k : PUnit → Code F PUnit} {src dst : Memref sig .tc .vmem S2x1024 .bf16} {sm : DmaSem sig}
    {hsrc : src.view.WordExact} {hdst : dst.view.WordExact}
    {kd : Kind} (hk : kindOf (.dma sm) = kd) (ho : IsOwn (.dma sm)) {r : ℕ} (hr : r < nRounds kd)
    (ha : amountK kd = N) (hd : dutiesK kd = {0}) (hN : dst.view.dmaCredit = N)
    {ι n : ℕ} (hι : ι < 3) (hl : lvK kd ι ≤ n) {O : CellTallies nD τ sig ℕ} (hO : Above n O) :
    iprop(Ctx P R ∗ cred (tallyAt ((c : Thread nD τ), .dma sm) ι N) ∗ owesE c O ∗ atRound ((c : Thread nD τ), .dma sm) r)
      ⊢ iprop(((owesE c O ∗ atRound ((c : Thread nD τ), .dma sm) (r + 1) ∗ payK P R c kd r 0) -∗ wpc c (k ⟨⟩) Q)
          -∗ wpc c (.op (.waitDma2 sm src dst hsrc hdst) k) Q) := by
  subst hk
  iintro ⟨#HC, Hc, ⟨%W, HO⟩, Hat, -⟩ Hk
  ihave Hk' := (ctx_known P R ho c) $$ HC
  unfold known
  icases Hk' with ⟨⟨%κ, HI⟩, -⟩
  iapply (Rounds.wp_wait_rest_token 𝒱₀ ER (Rd P R) (c : Thread nD τ) none (κ := κ)
      (wpE_waitDma2_eq 𝒱₀ (c : Thread nD τ) none Set.univ) (Set.mem_univ _) ι (O := O) (W := W) (R := r) (m := 0) (T := ∅)
      (by rw [Nat.zero_add, expect_of P R rfl c hr, hd, ha, Finset.card_singleton, Nat.one_mul, hN])) $$ [HI Hc HO Hat]
  · isplitl [HI]; · iexact HI
    isplitl [Hc]; · rw [hN]; iexact Hc
    isplitl [HO]; · iexact HO
    isplitr
    · iapply ((ctx_lev P R).trans (mayWait_of (c := c) (sm := .dma sm) hι hl hO)); iexact HC
    iexact Hat
  rw [Finset.sdiff_empty, duties_of P R rfl c hr, hd, bigSep_singleton, payload_of P R rfl]
  iintro ⟨HO, Hat, Hr, Hp⟩
  iapply Hk
  isplitl [HO]; · iexists _; iexact HO
  isplitl [Hat Hr]
  · isplitl [Hat]; · iexact Hat
    iexact Hr
  iexact Hp

/-- One signal of the barrier. -/
theorem step_signal {c : Dev nD} {Q : PUnit → sProp 𝕄} {k : PUnit → Code F PUnit} {c' : Dev nD} {j : Fin 31} (hc : nb c' (rev j) = c) {O : CellTallies nD τ sig ℕ} :
    iprop(Ctx P R ∗ owesE c (O + tallyAt (barC c') 0 1) ∗ dutyTok ER (barC c') 0 j ∗ perm (F := F) c' (rev j))
      ⊢ iprop((owesE c O -∗ wpc c (k ⟨⟩) Q) -∗ wpc c (semSignalWord c' barS 1#32 >>= k) Q) := by
  iintro ⟨#HC, ⟨%W, HO⟩, Ht, Hp⟩ Hk
  ihave Hk' := (ctx_known P R own_bar c') $$ HC
  unfold known
  icases Hk' with ⟨⟨%κ, HI⟩, Hr⟩
  simp only [semSignalWord, Prog.lift, Prog.bind_op, Prog.bind_ret]
  iapply (Rounds.wp_signal 𝒱₀ ER (Rd P R) (c : Thread nD τ) none (dst := (c' : Thread nD τ)) (κ := κ) (r := 0) (d := j)
      (by rw [duties_of P R kind_bar c' (by decide)]; exact Finset.mem_univ _)
      ((amount_of P R kind_bar c' 0 j).trans (by decide)) 0 O rfl (W := W)) $$ [HI HO Ht Hp Hr]
  · isplitl [HI]; · iexact HI
    isplitl [HO]; · iexact HO
    isplitl [Ht]; · iexact Ht
    isplitl [Hp]
    · rw [payload_of P R kind_bar, show payK P R c' .bar 0 j = perm c' (rev j) from rfl]; iexact Hp
    iexact Hr
  iintro HO
  iapply Hk; iexists W; iexact HO

/-- The barrier's wait. -/
theorem step_barrier {c : Dev nD} {Q : PUnit → sProp 𝕄} {k : PUnit → Code F PUnit} {O : CellTallies nD τ sig ℕ} (hO : Above 1 O) :
    iprop(Ctx P R ∗ cred (tallyAt (barC c) 0 31) ∗ owesE c O ∗ atRound (barC c) 0)
      ⊢ iprop(((owesE c O ∗ atRound (barC c) 1 ∗ bigL offs (perm (F := F) c)) -∗ wpc c (k ⟨⟩) Q)
          -∗ wpc c (semWaitWord barS 31#32 >>= k) Q) := by
  iintro ⟨#HC, Hc, ⟨%W, HO⟩, Hat, -⟩ Hk
  ihave Hk' := (ctx_known P R own_bar c) $$ HC
  unfold known
  icases Hk' with ⟨⟨%κ, HI⟩, -⟩
  simp only [semWaitWord, Prog.lift, Prog.bind_op, Prog.bind_ret]
  iapply (Rounds.wp_wait_rest_token 𝒱₀ ER (Rd P R) (c : Thread nD τ) none (κ := κ)
      (wpE_semWait_eq 𝒱₀ (c : Thread nD τ) none Set.univ) (Set.mem_univ _) 0 (O := O) (W := W) (R := 0) (m := 0) (T := ∅)
      (by rw [Nat.zero_add, expect_of P R kind_bar c (by decide)]; decide)) $$ [HI Hc HO Hat]
  · isplitl [HI]; · iexact HI
    isplitl [Hc]; · iexact Hc
    isplitl [HO]; · iexact HO
    isplitr
    · iapply ((ctx_lev P R).trans (mayWait_of (c := c) (sm := .reg barS) (n := 1) (by decide) (by decide) hO)); iexact HC
    iexact Hat
  rw [Finset.sdiff_empty, duties_of P R kind_bar c (by decide)]
  iintro ⟨HO, Hat, Hr, Hp⟩
  iapply Hk
  isplitl [HO]; · iexists _; iexact HO
  isplitl [Hat Hr]
  · isplitl [Hat]; · iexact Hat
    iexact Hr
  rw [bigL_rev, bigL_offs]
  iexact Hp

end Step

/-! ## Loads and stores -/

section Mem

/-- A load from a whole buffer. -/
theorem step_load {c : Dev nD} {Q : PUnit → sProp 𝕄} {s : Shape} {e : EltTy} {M : Memref sig .tc .vmem s e} {r : Rect s}
    {hl : M.view.LoadsAt r.toLoadRect} {k : (r.shape.Idx → Elt F e) → Code F PUnit} {q : PosShare TreeShare}
    {X : s.Idx → Elt F e} {X' : r.shape.Idx → Elt F e} (hX : ∀ f, M.view.read (Elt F) f = X → M.view.readAt (Elt F) r.toLoadRect f = X')
    (hs : M.view.setOn r.toLoadRect.set ⊆ M.view.set) :
    owns (c : Thread nD τ) M q X
      ⊢ iprop((owns (c : Thread nD τ) M q X -∗ wpc c (k X') Q) -∗ wpc c (.op (.load M r.toLoadRect hl) k) Q) := by
  unfold owns
  iintro ⟨%f, %hf, H⟩ Hk
  iapply (wp_load 𝒱₀ (c : Thread nD τ) none Set.univ (m := M) hs) $$ H; iintro H
  rw [hX f hf]
  iapply Hk
  iexists f; isplitr; · (ipureintro; exact hf)
  iexact H

/-- What a load of a whole buffer reads. -/
theorem whole_load (b : Ref sig .tc) {off : Fin b.ty.shape.rank → Nat} (h : off = fun _ => 0)
    (inb : ∀ a, off a + b.ty.shape.size a ≤ b.ty.shape.size a) {X : b.ty.Contents (Elt F)} (f : b.ty.Contents (Elt F))
    (hf : (Memref.whole b : Memref sig .tc _ _ _).view.read (Elt F) f = X) :
    (Memref.whole b : Memref sig .tc _ _ _).view.readAt (Elt F) (Rect.unit off b.ty.shape.size inb).toLoadRect f = X :=
  (Memref.readAt_unit_zero (Elt F) b h inb f).trans hf

theorem whole_store (b : Ref sig .tc) {off : Fin b.ty.shape.rank → Nat} (h : off = fun _ => 0)
    (inb : ∀ a, off a + b.ty.shape.size a ≤ b.ty.shape.size a) (f w : b.ty.Contents (Elt F)) :
    (Memref.whole b : Memref sig .tc _ _ _).view.read (Elt F)
      (((Memref.whole b).access (Rect.unit off b.ty.shape.size inb) : View sig .tc _ _ _).write (Elt F) f w Finset.univ) = w := by
  rw [Memref.write_access_unit_zero_univ (Elt F) b h inb f w]; exact View.read_whole _ _

theorem hz : (![0, 0] : Fin 2 → Nat) = fun _ => 0 := funext fun a => by fin_cases a <;> rfl

theorem whole_sub (b : Ref sig .tc) (S : Finset b.ty.shape.Idx) :
    S ⊆ (Memref.whole b : Memref sig .tc _ _ _).view.set := by
  exact (Finset.subset_univ S).trans (le_of_eq (View.set_whole b).symm)

/-- A store to a whole buffer. -/
theorem step_store {c : Dev nD} {Q : PUnit → sProp 𝕄} {s : Shape} {e : EltTy} {M : Memref sig .tc .vmem s e} {r : Rect s}
    {w : r.shape.Idx → Elt F e} {hx : (M.access r).Stores Finset.univ}
    {hm : (Finset.univ : Finset r.shape.Idx) = Finset.univ ∨ ∀ a, r.stride a = 1} {k : PUnit → Code F PUnit}
    {X' : s.Idx → Elt F e} (hX : ∀ f, M.view.read (Elt F) ((M.access r).write (Elt F) f w Finset.univ) = X')
    (hs : (M.access r).setOn Finset.univ ⊆ M.view.set) :
    iprop(∃ X, owns (c : Thread nD τ) M fullShare X)
      ⊢ iprop((owns (c : Thread nD τ) M fullShare X' -∗ wpc c (k ⟨⟩) Q)
          -∗ wpc c (.op (.store M r w Finset.univ hx hm) k) Q) := by
  unfold owns
  iintro ⟨%X, %f, -, H⟩ Hk
  iapply (wp_store 𝒱₀ (c : Thread nD τ) none Set.univ (m := M) (r := r) (Mk := Finset.univ) hs) $$ H; iintro H
  iapply Hk
  iexists _; isplitr; swap; · iexact H
  ipureintro; exact hX f

/-- A load of a landing slot. -/
theorem step_slot {c : Dev nD} {Q : PUnit → sProp 𝕄} {n : Fin 32}
    {hl : rsM.view.LoadsAt (slotRect n).toLoadRect} {k : ((slotRect n).shape.Idx → Elt F .bf16) → Code F PUnit}
    {X : Rows F} :
    owns (c : Thread nD τ) (slotM n) fullShare X
      ⊢ iprop((∀ v : (slotRect n).shape.Idx → Elt F .bf16, ⌜slotVal (F := F) v = extf .f32 X bitsLt_bf16_f32⌝
              -∗ owns (c : Thread nD τ) (slotM n) fullShare X -∗ wpc c (k v) Q)
          -∗ wpc c (.op (.load rsM (slotRect n).toLoadRect hl) k) Q) := by
  unfold owns
  iintro ⟨%f, %hf, H⟩ Hk
  iapply (wp_load 𝒱₀ (c : Thread nD τ) none Set.univ (m := rsM) (r := (slotRect n).toLoadRect) (S := (slotM n).view.set)
    (by rw [show (slotM n).view.set = (rsM.view.slice (slotRect n)).set from View.set_reshape _ _, View.set_slice]; exact subset_rfl)) $$ H
  iintro H
  iapply Hk $$ []
  · ipureintro
    unfold slotVal
    rw [← hf]
    rfl
  iexists f; isplitr; · (ipureintro; exact hf)
  iexact H

end Mem

end Cert.MlpProof

end
-- ==== Proof.Buffers.lean ====
/-
# Cutting buffers and putting them together

The partial product and the next-layer input are 32 blocks of two rows, one a device; the landing buffer is 32 slots; the
reduced rows are read by 32 copies at once, each with a share.
-/
module

public import proofs.«01_k».proof.Proof.Steps
public import Idealize.ShloMosaic.Lib.Ring

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- One assertion per device: this device's and the others' in the order of the offsets. -/
theorem dev_split (c : Dev nD) (Φ : Dev nD → sProp 𝕄) :
    bigSep Finset.univ Φ = iprop(Φ c ∗ bigL offs fun j => Φ (nb c j)) := by
  have h : (Finset.univ : Finset (Dev nD)) = insert c (Finset.univ.map ⟨nb c, nb_inj c⟩) := by
    ext d
    simp only [Finset.mem_univ, Finset.mem_insert, Finset.mem_map, Function.Embedding.coeFn_mk, true_and, true_iff]
    by_cases e : d = c
    · exact .inl e
    · exact .inr (nb_surj c d e)
  rw [h, bigSep_insert (by
    rw [Finset.mem_map]; rintro ⟨j, -, e⟩; exact nb_ne c j e), bigSep_map, bigL_offs]
  rfl

/-- One assertion per slot: slot 0's and the others' in the order of the offsets. -/
theorem slot_split (Φ : Fin 32 → sProp 𝕄) :
    bigSep Finset.univ Φ = iprop(Φ 0 ∗ bigL offs fun j => Φ j.succ) := by
  have h : (Finset.univ : Finset (Fin 32)) = insert 0 (Finset.univ.map ⟨Fin.succ, Fin.succ_injective 31⟩) := by
    ext d
    simp only [Finset.mem_univ, Finset.mem_insert, Finset.mem_map, Function.Embedding.coeFn_mk, true_and, true_iff]
    rcases Fin.eq_zero_or_eq_succ d with e | ⟨j, e⟩
    · exact .inl e
    · exact .inr ⟨j, e.symm⟩
  rw [h, bigSep_insert (by
    rw [Finset.mem_map]; rintro ⟨j, -, e⟩; exact Fin.succ_ne_zero j e), bigSep_map, bigL_offs]
  rfl

/-! ## Row blocks -/

abbrev rowR (b : Dev nD) : Rect S64x1024 := Rect.unit (s := S64x1024) (rowAt b).o S2x1024.size (rowAt b).inb

theorem row_disj (b b' : Fin 32) (h : b ≠ b') : Disjoint (rowR b).set (rowR b').set :=
  Ring.lead_disjoint (s := S64x1024) (NB := 32) 0 2 (fun b => (rowAt b).o) S2x1024.size (fun b => (rowAt b).inb)
    (fun _ => rfl) rfl b b' h

theorem row_cover : (Finset.univ : Finset (Fin 32)).biUnion (fun b => (rowR b).set) = Finset.univ :=
  Ring.lead_cover (s := S64x1024) (NB := 32) 0 2 (fun b => (rowAt b).o) S2x1024.size (fun b => (rowAt b).inb)
    (fun _ => rfl) (fun b a h => by fin_cases a; · exact absurd rfl h
                                    · rfl) rfl (fun a h => by fin_cases a; · exact absurd rfl h
                                                              · rfl) rfl

theorem part_rows (c : Dev nD) (X : Full F) :
    (owns (c : Thread nD τ) partM fullShare X : sProp 𝕄)
      = iprop(owns (c : Thread nD τ) (rowAt c).part fullShare (blk X c)
        ∗ bigL offs fun j => owns (c : Thread nD τ) (rowAt (nb c j)).part fullShare (blk X (nb c j))) := by
  rw [← dev_split c (fun b => owns (c : Thread nD τ) (rowAt b).part fullShare (blk X b))]
  exact BI.equiv_iff.mp ⟨owns_rects (c : Thread nD τ) partM fullShare rowR (fun _ _ => rfl) row_disj row_cover X,
    owns_of_rects (c : Thread nD τ) partM fullShare rowR (fun _ _ => rfl) row_disj row_cover X⟩

theorem xOf_row (R : Dev nD → Rows F) (b : Dev nD) : (fun j => xOf R ((rowR b).emb j)) = R b := by
  funext j
  have hj : (j 0).val < 2 := (j 0).isLt
  have e0 : ((rowR b).emb j 0).val = 2 * b.val + 1 * (j 0).val := rfl
  have e1 : ((rowR b).emb j 1).val = 0 + 1 * (j 1).val := rfl
  unfold xOf
  congr 1
  · apply Fin.ext
    show ((rowR b).emb j 0).val / 2 = b.val
    rw [e0]; omega
  · funext a
    apply Fin.ext
    fin_cases a
    · show ((rowR b).emb j 0).val % 2 = (j 0).val
      rw [e0]; omega
    · show ((rowR b).emb j 1).val = (j 1).val
      rw [e1]; omega

theorem xn_rows (c : Dev nD) (R : Dev nD → Rows F) :
    (owns (c : Thread nD τ) xnM fullShare (xOf R) : sProp 𝕄)
      = iprop(owns (c : Thread nD τ) (rowAt c).xn fullShare (R c)
        ∗ bigL offs fun j => owns (c : Thread nD τ) (rowAt (nb c j)).xn fullShare (R (nb c j))) := by
  rw [← dev_split c (fun b => owns (c : Thread nD τ) (rowAt b).xn fullShare (R b))]
  have h := BI.equiv_iff.mp ⟨owns_rects (U := UU) (Ix := ℕ) (Name := ℕ) (Lvl := ℕ) (c : Thread nD τ) xnM fullShare rowR (fun _ _ => rfl) row_disj row_cover (xOf R),
    owns_of_rects (c : Thread nD τ) xnM fullShare rowR (fun _ _ => rfl) row_disj row_cover (xOf R)⟩
  rw [h]
  exact bigSep_congr fun b _ => by rw [xOf_row R b]

theorem xn_any (c : Dev nD) (X : Full F) :
    (owns (c : Thread nD τ) xnM fullShare X : sProp 𝕄)
      ⊢ iprop(xrowAny (F := F) c c ∗ bigL offs fun j => xrowAny (F := F) c (nb c j)) := by
  rw [← dev_split c (fun b => xrowAny (F := F) c b)]
  have h (b : Dev nD) : (owns (c : Thread nD τ) (xnM.slice (rowR b) (fun _ => rfl)) fullShare (fun j => X ((rowR b).emb j)) : sProp 𝕄)
      ⊢ xrowAny (F := F) c b := by
    unfold xrowAny
    iintro H
    iexists _; iexact H
  exact (owns_rects (c : Thread nD τ) xnM fullShare rowR (fun _ _ => rfl) row_disj row_cover X).trans
    (bigSep_mono fun b _ => h b)

/-! ## Slots -/

theorem slotM_set (n : Fin 32) : (slotM n).view.set = (slotRect n).set :=
  (View.set_reshape _ _).trans (View.set_slice_whole cc0_scratch1 (slotRect n))

/-- The elements of slot `n`. -/
def slotI (n : Fin 32) : Finset S32x2x1024.Idx := (slotM n).view.set

theorem slot_disj (n n' : Fin 32) (h : n ≠ n') : Disjoint (slotI n) (slotI n') := by
  unfold slotI
  rw [slotM_set, slotM_set]
  exact Ring.lead_disjoint (s := S32x2x1024) (NB := 32) 0 1 (fun b => ![b.val, 0, 0]) S1x2x1024.size slot_inb
    (fun b => (Nat.one_mul _).symm) rfl n n' h

theorem slot_cover : (Finset.univ : Finset (Fin 32)).biUnion slotI = Finset.univ := by
  have h := Ring.lead_cover (s := S32x2x1024) (NB := 32) 0 1 (fun b => ![b.val, 0, 0]) S1x2x1024.size slot_inb
    (fun b => (Nat.one_mul _).symm) (fun b a h => by fin_cases a; · exact absurd rfl h
                                                     · rfl
                                                     · rfl) rfl (fun a h => by fin_cases a; · exact absurd rfl h
                                                                               · rfl
                                                                               · rfl) rfl
  rw [← h]
  exact Finset.biUnion_congr rfl fun n _ => slotM_set n

theorem slots_split (c : Dev nD) :
    (iprop(∃ f : Buf (Elt F) ((c : Thread nD τ).loc cc0_scratch1), ((c : Thread nD τ).loc cc0_scratch1) ↦{fullShare} f) : sProp 𝕄)
      ⊢ iprop(slotAny (F := F) c 0 ∗ bigL offs fun j => slotAny (F := F) c j.succ) := by
  rw [← slot_split (fun n => slotAny (F := F) c n)]
  have h (f : Buf (Elt F) ((c : Thread nD τ).loc cc0_scratch1)) (n : Fin 32) :
      (((c : Thread nD τ).loc cc0_scratch1) ↦[slotI n]{fullShare} f : sProp 𝕄) ⊢ slotAny (F := F) c n := by
    unfold slotAny owns
    iintro H
    iexists _; iexists f; isplitr; · (ipureintro; rfl)
    iexact H
  have h' (f : Buf (Elt F) ((c : Thread nD τ).loc cc0_scratch1)) :
      (((c : Thread nD τ).loc cc0_scratch1) ↦{fullShare} f : sProp 𝕄) ⊢ bigSep Finset.univ fun n => slotAny (F := F) c n := by
    rw [Ring.pointsTo_blocks slotI slot_disj slot_cover f]
    exact bigSep_mono fun n _ => h f n
  iintro ⟨%f, H⟩
  iapply (h' f); iexact H

theorem slots_join (c : Dev nD) :
    iprop(slotAny (F := F) c 0 ∗ bigL offs fun j => slotAny (F := F) c j.succ)
      ⊢ (iprop(∃ f : Buf (Elt F) ((c : Thread nD τ).loc cc0_scratch1), ((c : Thread nD τ).loc cc0_scratch1) ↦{fullShare} f) : sProp 𝕄) := by
  rw [← slot_split (fun n => slotAny (F := F) c n)]
  have h (n : Fin 32) : slotAny (F := F) c n
      ⊢ (iprop(∃ f : Buf (Elt F) ((c : Thread nD τ).loc cc0_scratch1), ((c : Thread nD τ).loc cc0_scratch1) ↦[slotI n]{fullShare} f) : sProp 𝕄) := by
    unfold slotAny owns
    iintro ⟨%X, %f, -, H⟩
    iexists f; iexact H
  have x : Elt F .bf16 := Classical.choice (Elt.nonempty F .bf16)
  have hj := Ring.pointsTo_blocks_join_exists (Ix := ℕ) (Name := ℕ) (U := UU) (Lvl := ℕ) (Val := Elt F)
    (ℓ := (c : Thread nD τ).loc cc0_scratch1) slotI slot_disj slot_cover (q := fullShare) (fun _ => x)
  exact BIBase.Entails.trans (bigSep_mono fun n _ => h n) hj

/-! ## Shares of the reduced rows -/

theorem red_shares (c : Dev nD) (X : Rows F) :
    (owns (c : Thread nD τ) redM fullShare X : sProp 𝕄)
      = iprop(owns (c : Thread nD τ) redM qLoc X ∗ bigL offs fun j => owns (c : Thread nD τ) redM (qRem j) X) := by
  have e (q : PosShare TreeShare) : (owns (c : Thread nD τ) redM q X : sProp 𝕄) = ((c : Thread nD τ).loc cc0_scratch2) ↦{q} X :=
    owns_whole (c : Thread nD τ) cc0_scratch2 q X
  rw [e, e, bigL_offs, bigSep_congr (fun j _ => e (qRem j))]
  exact BI.equiv_iff.mp ⟨Transfers.pointsTo_toks_split fullShare 31, Transfers.pointsTo_toks_join fullShare 31⟩

/-! ## Whole buffers at some contents -/

theorem any_of_pts (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  congr 1
  funext f
  exact (owns_whole (c : Thread nD τ) b fullShare f).symm

end Cert.MlpProof

end
-- ==== Proof.Phases.lean ====
/-
# The phases of a layer

What each phase of the body takes and leaves: the start of a reduce-scatter, its sum, the gather, and the waits for
the copies' sources.
-/
module

public import proofs.«01_k».proof.Proof.Buffers

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : ℕ → Dev nD → Full F) (R : ℕ → Dev nD → Rows F)

/-! ## The barrier's signals -/

theorem signals_spec (c : Dev nD) (K : Code F PUnit) (Q : PUnit.{1} → sProp 𝕄) :
    iprop(Ctx P R ∗ bigL offs (fun j => iprop(dutyTok ER (barC (nb c j)) 0 j ∗ perm (F := F) (nb c j) (rev j))) ∗ owesE c (O₀ c))
      ⊢ iprop((owesE c (owe1 c) -∗ wpc c K Q) -∗ wpc c (loopK (sigAt (nb c)) K offs) Q) := by
  have h := wp_loopK c (Ctx P R) (fun j => iprop(dutyTok ER (barC (nb c j)) 0 j ∗ perm (F := F) (nb c j) (rev j))) (fun _ => iprop(emp))
    (fun l => owesE c (owBar c l + owe1 c)) Q (sigAt (nb c)) K (by
      intro j l e
      rw [show owBar c (j :: l) + owe1 c = (owBar c l + owe1 c) + tallyAt (barC (nb c j)) 0 1 from add_right_comm _ _ _]
      iintro ⟨#HC, ⟨Ht, Hp⟩, HO⟩ Hk
      iapply (step_signal P R (c' := nb c j) (j := j) (nb_rev c j)) $$ [Ht Hp HO]
      · isplitr; · iexact HC
        isplitl [HO]; · iexact HO
        isplitl [Ht]; · iexact Ht
        iexact Hp
      iintro HO
      iapply Hk
      isplitr; · iempintro
      iexact HO) offs
  iintro ⟨#HC, Hl, HO⟩ Hk
  iapply h $$ [Hl HO]
  · isplitr; · iexact HC
    isplitl [Hl]; · iexact Hl
    iexact HO
  iintro ⟨-, HO⟩
  iapply Hk
  rw [show owBar c [] + owe1 c = owe1 c from zero_add _]
  iexact HO

/-! ## The reduce-scatter starts -/

/-- What the `j`-th copy of layer `r` takes, besides its source. -/
def rsSendPre (c : Dev nD) (r : ℕ) (j : Fin 31) : sProp 𝕄 :=
  iprop(slotAny (F := F) (nb c j) j.succ ∗ reached ER (rsRC (nb c j) j) r ∗ rsExtra (F := F) (nb c j) c j r
    ∗ atRound (rsSC c j) r ∗ dutyTok ER (rsSC c j) r 0 ∗ dutyTok ER (rsRC (nb c j) j) r 0)

/-- A copy whose source is out. -/
def rsOut (c : Dev nD) (r : ℕ) (j : Fin 31) : sProp 𝕄 :=
  iprop(atRound (F := F) (rsSC c j) r ∗ cred (tallyAt (rsSC c j) 0 N))

theorem rsSends_spec (c : Dev nD) {r : ℕ} (hr : r < 3) (O : CellTallies nD τ sig ℕ) (K : Code F PUnit) (Q : PUnit.{1} → sProp 𝕄) :
    iprop(Ctx P R ∗ bigL offs (fun j => iprop(rsSPay P c j r ∗ rsSendPre c r j)) ∗ owesE c (owRs c r offs + O))
      ⊢ iprop(((bigL offs (rsOut c r) ∗ owesE c O) -∗ wpc c K Q)
        -∗ wpc c (loopK (rsSendAt (nb c) (fun j => rowAt (nb c j))) K offs) Q) := by
  have h := wp_loopK c (Ctx P R) (fun j => iprop(rsSPay P c j r ∗ rsSendPre c r j)) (rsOut c r)
    (fun l => owesE c (owRs c r l + O)) Q (rsSendAt (nb c) (fun j => rowAt (nb c j))) K (by
      intro j l e
      rw [show owRs c r (j :: l) + O = (owRs c r l + O) + tallyAt (rsRC (nb c j) j) r N from add_right_comm _ _ _]
      unfold rsSendPre rsOut rsSPay slotAny
      simp only [rsSendAt, Prog.lift, Prog.bind_op, Prog.bind_ret]
      iintro ⟨#HC, ⟨Hs, Hd, HrR, HG, ⟨Hat, #HrS⟩, HtS, HtR⟩, HO⟩ Hk
      iapply (step_send P R (c' := nb c j) (r := r) (q := fullShare) (X := blk (P r c) (nb c j)) (G := rsExtra (F := F) (nb c j) c j r)
        (kind_rsS j) (kind_rsR j) (own_rsS j) (own_rsR j) hr hr rfl rfl rfl rfl (cred_slot j.succ)
        (show owns (c : Thread nD τ) (rowAt (nb c j)).part fullShare (blk (P r c) (nb c j)) ⊢ rsSPay P c j r from .rfl)
        (by
          rw [show payK P R (nb c j) (.rsR j) r 0 = rsPay P (nb c j) (nb (nb c j) (rev j)) j r from rfl, nb_rev]
          unfold rsPay
          exact .rfl)) $$ [Hs Hd HrR HG HtS HtR HO]
      · isplitr; · iexact HC
        isplitl [Hs]; · iexact Hs
        isplitl [Hd]; · iexact Hd
        isplitl [HG]; · iexact HG
        isplitl [HO]; · iexact HO
        isplitl [HtS]
        · isplitl [HtS]; · iexact HtS
          iexact HrS
        isplitl [HtR]; · iexact HtR
        iexact HrR
      iintro ⟨Hc, HO⟩
      iapply Hk
      isplitl [Hc Hat]
      · isplitl [Hat]
        · isplitl [Hat]; · iexact Hat
          iexact HrS
        iexact Hc
      iexact HO) offs
  iintro ⟨#HC, Hl, HO⟩ Hk
  iapply h $$ [Hl HO]
  · isplitr; · iexact HC
    isplitl [Hl]; · iexact Hl
    iexact HO
  iintro ⟨Hl, HO⟩
  iapply Hk
  isplitl [Hl]; · iexact Hl
  rw [show owRs c r [] + O = O from zero_add _]
  iexact HO

theorem rsStart_eq (dev : Fin 31 → Dev nD) (own : RowOff) (oth : Fin 31 → RowOff) (v : FVec F S64x1024 .bf16) (K : Code F PUnit) :
    rsStart dev own oth v K
      = .op (.load partM rect64.toLoadRect (View.loadsAt_vmem h_S64x1024)) fun _ =>
        .op (.store partM rect64 v Finset.univ
          (View.stores_vmem h_S64x1024 (partWhole.storeExact_slice rfl _ packedbf16_S64x1024_S64x1024_0_0) (fun _ => rfl)) (.inl rfl)) fun _ =>
        .op (.enqueueDma own.part (.here (slotM 0)) (.dma locS) (part_we own) (slot_we 0) ⟨Or.inl rfl, trivial⟩) fun _ =>
        loopK (rsSendAt dev oth) K offs := rfl

theorem rsStart_spec (c : Dev nD) {r : ℕ} (hr : r < 3) (O : CellTallies nD τ sig ℕ) (v : FVec F S64x1024 .bf16) (hv : v = P r c)
    (K : Code F PUnit) (Q : PUnit.{1} → sProp 𝕄) :
    iprop(Ctx P R ∗ (∃ X : Full F, owns (c : Thread nD τ) partM fullShare X) ∗ slotAny (F := F) c 0
        ∗ (dutyTok ER (locC c) (2 * r) 0 ∗ atRound (locC c) (2 * r))
        ∗ bigL offs (rsSendPre c r) ∗ owesE c (owRs c r offs + O))
      ⊢ iprop(((cred (tallyAt (locC c) 0 N) ∗ atRound (locC c) (2 * r) ∗ bigL offs (rsOut c r) ∗ owesE c O) -∗ wpc c K Q)
        -∗ wpc c (rsStart (nb c) (rowAt c) (fun j => rowAt (nb c j)) v K) Q) := by
  rw [rsStart_eq]
  iintro ⟨#HC, ⟨%X, Hp⟩, Hs, ⟨Ht, Hat, #Hr⟩, Hl, HO⟩ Hk
  iapply (step_load (M := partM) (whole_load cc0_scratch0 hz inb_S64x1024_S64x1024_0_0) (whole_sub cc0_scratch0 _)) $$ Hp
  iintro Hp
  iapply (step_store (M := partM) (X' := P r c)
    (fun f => (whole_store cc0_scratch0 hz inb_S64x1024_S64x1024_0_0 f v).trans hv) (whole_sub cc0_scratch0 _)) $$ [Hp]
  · iexists X; iexact Hp
  rw [part_rows c (P r c)]
  iintro ⟨Hown, Hrows⟩
  iapply (step_copy P R (r := 2 * r) (q := fullShare) (X := blk (P r c) c) kind_loc own_loc (by show 2 * r < 5; omega) rfl rfl (cred_slot 0)
    (by
      rw [show payK P R c .loc (2 * r) 0 = locRs P c (2 * r / 2) from if_pos (Nat.mul_mod_right 2 r), Nat.mul_div_cancel_left r (by decide)]
      unfold locRs
      exact .rfl)) $$ [Hown Hs Ht]
  · isplitr; · iexact HC
    isplitl [Hown]; · iexact Hown
    isplitl [Hs]; · unfold slotAny; iexact Hs
    isplitl [Ht]; · iexact Ht
    iexact Hr
  iintro Hc
  iapply (rsSends_spec P R c hr O K Q) $$ [Hrows Hl HO]
  · isplitr; · iexact HC
    isplitl [Hrows Hl]
    · rw [bigL_sep]
      isplitl [Hrows]; · unfold rsSPay; iexact Hrows
      iexact Hl
    iexact HO
  iintro ⟨Hl, HO⟩
  iapply Hk
  isplitl [Hc]; · iexact Hc
  isplitl [Hat]
  · isplitl [Hat]; · iexact Hat
    iexact Hr
  isplitl [Hl]; · iexact Hl
  iexact HO

/-! ## The reduce-scatter's sum -/

/-- The sum a device makes of its column of blocks, in the kernel's order. -/
def accS (r : ℕ) (c : Dev nD) : FVec F S2x1024 .f32 :=
  offs.foldl (fun acc j => addf acc (extf .f32 (blk (P r (nb c (rev j))) c) bitsLt_bf16_f32)) (extf .f32 (blk (P r c) c) bitsLt_bf16_f32)

/-- A landing of layer `r` still to come. -/
def rsDue (c : Dev nD) (r : ℕ) (j : Fin 31) : sProp 𝕄 :=
  iprop(cred (tallyAt (rsRC c j) r N) ∗ atRound (rsRC c j) r)
/-- A landing of layer `r` taken. -/
def rsGot (c : Dev nD) (r : ℕ) (j : Fin 31) : sProp 𝕄 :=
  iprop(atRound (rsRC c j) (r + 1) ∗ rsPay P c (nb c (rev j)) j r)

theorem rsFold_spec (c : Dev nD) {r : ℕ} (hr : r < 3) {O : CellTallies nD τ sig ℕ} (hO : Above (2 + 2 * r) O)
    (K : FVec F S2x1024 .f32 → Code F PUnit) (Q : PUnit.{1} → sProp 𝕄) :
    iprop(Ctx P R ∗ (cred (tallyAt (locC c) 0 N) ∗ atRound (locC c) (2 * r)) ∗ bigL offs (rsDue c r) ∗ owesE c O)
      ⊢ iprop(((atRound (locC c) (2 * r + 1) ∗ locRs P c r ∗ bigL offs (rsGot P c r) ∗ owesE c O) -∗ wpc c (K (accS P r c)) Q)
        -∗ wpc c (rsFold (rowAt c) (fun j => rowAt (nb c j)) K) Q) := by
  have h := wp_accK c (Ctx P R) (rsDue c r) (rsGot P c r) (fun _ => owesE c O) Q (rsAccAt (fun j => rowAt (nb c j)))
    (fun acc j => addf acc (extf .f32 (blk (P r (nb c (rev j))) c) bitsLt_bf16_f32)) K (by
      intro v j l e
      unfold rsDue rsGot
      simp only [rsAccAt, rsWaitAt, slotLoad, Prog.lift, Prog.bind_op, Prog.bind_ret, Prog.pure_eq_ret]
      iintro ⟨#HC, ⟨Hc, Hat⟩, HO⟩ Hk
      iapply (step_wait P R (r := r) (ι := r) (n := 2 + 2 * r) (kind_rsR j) (own_rsR j) hr rfl rfl (cred_slot j.succ) hr le_rfl hO) $$ [Hc Hat HO]
      · isplitr; · iexact HC
        isplitl [Hc]; · iexact Hc
        isplitl [HO]; · iexact HO
        iexact Hat
      rw [show payK P R c (.rsR j) r 0 = rsPay P c (nb c (rev j)) j r from rfl]
      unfold rsPay
      iintro ⟨HO, Hat, Hs, Hx⟩
      iapply step_slot $$ Hs
      iintro %w %hw Hs
      rw [hw]
      iapply Hk
      isplitl [Hat Hs Hx]
      · isplitl [Hat]; · iexact Hat
        isplitl [Hs]; · iexact Hs
        iexact Hx
      iexact HO) offs
  unfold rsFold
  simp only [rsWaitLocal, slotLoad, Prog.lift, Prog.bind_op, Prog.bind_ret]
  iintro ⟨#HC, ⟨Hc, Hat⟩, Hl, HO⟩ Hk
  iapply (step_wait P R (r := 2 * r) (ι := 0) (n := 2 + 2 * r) kind_loc own_loc (by show 2 * r < 5; omega) rfl rfl (cred_slot 0) (by decide) (Nat.zero_le _) hO) $$ [Hc Hat HO]
  · isplitr; · iexact HC
    isplitl [Hc]; · iexact Hc
    isplitl [HO]; · iexact HO
    iexact Hat
  rw [show payK P R c .loc (2 * r) 0 = locRs P c (2 * r / 2) from if_pos (Nat.mul_mod_right 2 r), Nat.mul_div_cancel_left r (by decide)]
  unfold locRs
  iintro ⟨HO, Hat, Hs, Hown⟩
  iapply step_slot $$ Hs
  iintro %w %hw Hs
  rw [hw]
  iapply (h (extf .f32 (blk (P r c) c) bitsLt_bf16_f32)) $$ [Hl HO]
  · isplitr; · iexact HC
    isplitl [Hl]; · iexact Hl
    iexact HO
  iintro ⟨Hl, HO⟩
  iapply Hk
  isplitl [Hat]; · iexact Hat
  isplitl [Hs Hown]
  · isplitl [Hs]; · iexact Hs
    iexact Hown
  isplitl [Hl]; · iexact Hl
  iexact HO

/-! ## The sources come back -/

/-- The copies' sources of layer `r`. -/
def rsBack (c : Dev nD) (r : ℕ) (j : Fin 31) : sProp 𝕄 :=
  iprop(atRound (rsSC c j) (r + 1) ∗ rsSPay P c j r)

theorem rsBack_spec (c : Dev nD) {r : ℕ} (hr : r < 3) {O : CellTallies nD τ sig ℕ} {n : ℕ} (hO : Above n O)
    (K : Code F PUnit) (Q : PUnit.{1} → sProp 𝕄) :
    iprop(Ctx P R ∗ bigL offs (rsOut c r) ∗ owesE c O)
      ⊢ iprop(((bigL offs (rsBack P c r) ∗ owesE c O) -∗ wpc c K Q)
        -∗ wpc c (loopK (rsSendWaitAt (fun j => rowAt (nb c j))) K offs) Q) :=
  wp_loopK c (Ctx P R) (rsOut c r) (rsBack P c r) (fun _ => owesE c O) Q (rsSendWaitAt (fun j => rowAt (nb c j))) K (by
    intro j l e
    unfold rsOut rsBack
    simp only [rsSendWaitAt, Prog.lift, Prog.bind_op, Prog.bind_ret]
    iintro ⟨#HC, ⟨Hat, Hc⟩, HO⟩ Hk
    iapply (step_wait P R (r := r) (ι := 0) (n := n) (kind_rsS j) (own_rsS j) hr rfl rfl (cred_part _) (by decide) (Nat.zero_le _) hO) $$ [Hc Hat HO]
    · isplitr; · iexact HC
      isplitl [Hc]; · iexact Hc
      isplitl [HO]; · iexact HO
      iexact Hat
    rw [show payK P R c (.rsS j) r 0 = rsSPay P c j r from rfl]
    iintro ⟨HO, Hat, Hs⟩
    iapply Hk
    isplitl [Hat Hs]
    · isplitl [Hat]; · iexact Hat
      iexact Hs
    iexact HO) offs

/-- An all-gather copy whose source is out, and one whose source is back. -/
def agOut (c : Dev nD) (r : ℕ) (j : Fin 31) : sProp 𝕄 :=
  iprop(atRound (F := F) (agSC c j) r ∗ cred (tallyAt (agSC c j) 0 N))
def agBack (c : Dev nD) (r : ℕ) (j : Fin 31) : sProp 𝕄 :=
  iprop(atRound (agSC c j) (r + 1) ∗ agSPay R c j r)

theorem agBack_spec (c : Dev nD) {r : ℕ} (hr : r < 2) {O : CellTallies nD τ sig ℕ} {n : ℕ} (hO : Above n O)
    (K : Code F PUnit) (Q : PUnit.{1} → sProp 𝕄) :
    iprop(Ctx P R ∗ bigL offs (agOut c r) ∗ owesE c O)
      ⊢ iprop(((bigL offs (agBack R c r) ∗ owesE c O) -∗ wpc c K Q)
        -∗ wpc c (loopK (agSendWaitAt (rowAt c)) K offs) Q) :=
  wp_loopK c (Ctx P R) (agOut c r) (agBack R c r) (fun _ => owesE c O) Q (agSendWaitAt (rowAt c)) K (by
    intro j l e
    unfold agOut agBack
    simp only [agSendWaitAt, Prog.lift, Prog.bind_op, Prog.bind_ret]
    iintro ⟨#HC, ⟨Hat, Hc⟩, HO⟩ Hk
    iapply (step_wait P R (r := r) (ι := 0) (n := n) (kind_agS j) (own_agS j) hr rfl rfl rfl (by decide) (Nat.zero_le _) hO) $$ [Hc Hat HO]
    · isplitr; · iexact HC
      isplitl [Hc]; · iexact Hc
      isplitl [HO]; · iexact HO
      iexact Hat
    rw [show payK P R c (.agS j) r 0 = agSPay R c j r from rfl]
    iintro ⟨HO, Hat, Hs⟩
    iapply Hk
    isplitl [Hat Hs]
    · isplitl [Hat]; · iexact Hat
      iexact Hs
    iexact HO) offs

/-! ## The gather -/

/-- What the `j`-th copy of the gather of layer `r` takes, besides its share of the source. -/
def agSendPre (c : Dev nD) (r : ℕ) (j : Fin 31) : sProp 𝕄 :=
  iprop((xrowAny (F := F) (nb c j) c ∗ reached ER (agRC (nb c j) j) r)
    ∗ (slotAny (F := F) c (rev j).succ ∗ reached ER (rsRC c (rev j)) (r + 1))
    ∗ atRound (agSC c j) r ∗ dutyTok ER (agSC c j) r 0 ∗ dutyTok ER (agRC (nb c j) j) r 0)

theorem agSends_spec (c : Dev nD) {r : ℕ} (hr : r < 2) (O : CellTallies nD τ sig ℕ) (K : Code F PUnit) (Q : PUnit.{1} → sProp 𝕄) :
    iprop(Ctx P R ∗ bigL offs (fun j => iprop(agSPay R c j r ∗ agSendPre c r j)) ∗ owesE c (owAg c r offs + O))
      ⊢ iprop(((bigL offs (agOut c r) ∗ owesE c O) -∗ wpc c K Q)
        -∗ wpc c (loopK (agSendAt (nb c) (rowAt c)) K offs) Q) := by
  have h := wp_loopK c (Ctx P R) (fun j => iprop(agSPay R c j r ∗ agSendPre c r j)) (agOut c r)
    (fun l => owesE c (owAg c r l + O)) Q (agSendAt (nb c) (rowAt c)) K (by
      intro j l e
      rw [show owAg c r (j :: l) + O = (owAg c r l + O) + tallyAt (agRC (nb c j) j) r N from add_right_comm _ _ _]
      unfold agSendPre agOut agSPay xrowAny
      simp only [agSendAt, Prog.lift, Prog.bind_op, Prog.bind_ret]
      iintro ⟨#HC, ⟨Hs, ⟨Hd, HrR⟩, HG, ⟨Hat, #HrS⟩, HtS, HtR⟩, HO⟩ Hk
      iapply (step_send P R (c' := nb c j) (r := r) (q := qRem j) (X := R r c)
        (G := iprop(slotAny (F := F) c (rev j).succ ∗ reached ER (rsRC c (rev j)) (r + 1)))
        (kind_agS j) (kind_agR j) (own_agS j) (own_agR j) hr hr rfl rfl rfl rfl (cred_xn _)
        (show owns (c : Thread nD τ) redM (qRem j) (R r c) ⊢ agSPay R c j r from .rfl)
        (by
          rw [show payK P R (nb c j) (.agR j) r 0 = agPay R (nb c j) (nb (nb c j) (rev j)) j r from rfl, nb_rev]
          unfold agPay
          exact .rfl)) $$ [Hs Hd HrR HG HtS HtR HO]
      · isplitr; · iexact HC
        isplitl [Hs]; · iexact Hs
        isplitl [Hd]; · iexact Hd
        isplitl [HG]; · iexact HG
        isplitl [HO]; · iexact HO
        isplitl [HtS]
        · isplitl [HtS]; · iexact HtS
          iexact HrS
        isplitl [HtR]; · iexact HtR
        iexact HrR
      iintro ⟨Hc, HO⟩
      iapply Hk
      isplitl [Hc Hat]
      · isplitl [Hat]
        · isplitl [Hat]; · iexact Hat
          iexact HrS
        iexact Hc
      iexact HO) offs
  iintro ⟨#HC, Hl, HO⟩ Hk
  iapply h $$ [Hl HO]
  · isplitr; · iexact HC
    isplitl [Hl]; · iexact Hl
    iexact HO
  iintro ⟨Hl, HO⟩
  iapply Hk
  isplitl [Hl]; · iexact Hl
  rw [show owAg c r [] + O = O from zero_add _]
  iexact HO

/-- A landing of the gather of layer `r` still to come, and one taken. -/
def agDue (c : Dev nD) (r : ℕ) (j : Fin 31) : sProp 𝕄 :=
  iprop(cred (tallyAt (agRC c j) r N) ∗ atRound (agRC c j) r)
def agGot (c : Dev nD) (r : ℕ) (j : Fin 31) : sProp 𝕄 :=
  iprop(atRound (agRC c j) (r + 1) ∗ agPay R c (nb c (rev j)) j r)

theorem agWaits_spec (c : Dev nD) {r : ℕ} (hr : r < 2) {O : CellTallies nD τ sig ℕ} (hO : Above (3 + 2 * r) O)
    (K : Code F PUnit) (Q : PUnit.{1} → sProp 𝕄) :
    iprop(Ctx P R ∗ bigL offs (agDue c r) ∗ owesE c O)
      ⊢ iprop(((bigL offs (agGot R c r) ∗ owesE c O) -∗ wpc c K Q)
        -∗ wpc c (loopK (agWaitAt (rowAt c)) K offs) Q) :=
  wp_loopK c (Ctx P R) (agDue c r) (agGot R c r) (fun _ => owesE c O) Q (agWaitAt (rowAt c)) K (by
    intro j l e
    unfold agDue agGot
    simp only [agWaitAt, Prog.lift, Prog.bind_op, Prog.bind_ret]
    iintro ⟨#HC, ⟨Hc, Hat⟩, HO⟩ Hk
    iapply (step_wait P R (r := r) (ι := r) (n := 3 + 2 * r) (kind_agR j) (own_agR j) hr rfl rfl (cred_xn _) (by omega) le_rfl hO) $$ [Hc Hat HO]
    · isplitr; · iexact HC
      isplitl [Hc]; · iexact Hc
      isplitl [HO]; · iexact HO
      iexact Hat
    rw [show payK P R c (.agR j) r 0 = agPay R c (nb c (rev j)) j r from rfl]
    iintro ⟨HO, Hat, Hs⟩
    iapply Hk
    isplitl [Hat Hs]
    · isplitl [Hat]; · iexact Hat
      iexact Hs
    iexact HO) offs

theorem gather_eq (dev : Fin 31 → Dev nD) (own : RowOff) (acc : FVec F S2x1024 .f32) (K : Code F PUnit) :
    gather dev own acc K
      = .op (.load redM rect2.toLoadRect (View.loadsAt_vmem h_S2x1024)) fun _ =>
        .op (.store redM rect2 (redVal acc) Finset.univ
          (View.stores_vmem h_S2x1024 (redWhole.storeExact_slice rfl _ packedbf16_S2x1024_S2x1024_0_0) (fun _ => rfl)) (.inl rfl)) fun _ =>
        .op (.enqueueDma redM (.here own.xn) (.dma locS) red_we (xn_we own) ⟨Or.inl rfl, trivial⟩) fun _ =>
        loopK (agSendAt dev own)
          (.op (.waitDma2 locS redM own.xn red_we (xn_we own)) fun _ => loopK (agWaitAt own) K offs) offs := rfl

theorem gather_spec (c : Dev nD) {r : ℕ} (hr : r < 2) {O : CellTallies nD τ sig ℕ} (hO : Above (3 + 2 * r) O)
    (acc : FVec F S2x1024 .f32) (hacc : redVal acc = R r c) (K : Code F PUnit) (Q : PUnit.{1} → sProp 𝕄) :
    iprop(Ctx P R ∗ (∃ X : Rows F, owns (c : Thread nD τ) redM fullShare X) ∗ xrowAny (F := F) c c
        ∗ (dutyTok ER (locC c) (2 * r + 1) 0 ∗ atRound (locC c) (2 * r + 1))
        ∗ bigL offs (agSendPre c r) ∗ bigL offs (agDue c r) ∗ owesE c (owAg c r offs + O))
      ⊢ iprop(((atRound (locC c) (2 * r + 2) ∗ locAg R c r ∗ bigL offs (agOut c r) ∗ bigL offs (agGot R c r) ∗ owesE c O) -∗ wpc c K Q)
        -∗ wpc c (gather (nb c) (rowAt c) acc K) Q) := by
  have hpay : payK P R c .loc (2 * r + 1) 0 = locAg R c r := by
    rw [show payK P R c .loc (2 * r + 1) 0 = locAg R c ((2 * r + 1) / 2) from if_neg (by omega), show (2 * r + 1) / 2 = r by omega]
  rw [gather_eq]
  iintro ⟨#HC, ⟨%X, Hp⟩, Hx, ⟨Ht, Hat, #Hr⟩, Hl, Hd, HO⟩ Hk
  iapply (step_load (M := redM) (whole_load cc0_scratch2 hz inb_S2x1024_S2x1024_0_0) (whole_sub cc0_scratch2 _)) $$ Hp
  iintro Hp
  iapply (step_store (M := redM) (X' := R r c)
    (fun f => (whole_store cc0_scratch2 hz inb_S2x1024_S2x1024_0_0 f (redVal acc)).trans hacc) (whole_sub cc0_scratch2 _)) $$ [Hp]
  · iexists X; iexact Hp
  rw [red_shares c (R r c)]
  iintro ⟨Hown, Hsh⟩
  iapply (step_copy P R (r := 2 * r + 1) (q := qLoc) (X := R r c) kind_loc own_loc (by show 2 * r + 1 < 5; omega) rfl rfl (cred_xn _)
    (by rw [hpay]; unfold locAg; exact .rfl)) $$ [Hown Hx Ht]
  · isplitr; · iexact HC
    isplitl [Hown]; · iexact Hown
    isplitl [Hx]; · unfold xrowAny; iexact Hx
    isplitl [Ht]; · iexact Ht
    iexact Hr
  iintro Hc
  iapply (agSends_spec P R c hr O _ Q) $$ [Hsh Hl HO]
  · isplitr; · iexact HC
    isplitl [Hsh Hl]
    · rw [bigL_sep]
      isplitl [Hsh]; · unfold agSPay; iexact Hsh
      iexact Hl
    iexact HO
  iintro ⟨Hl, HO⟩
  iapply (step_wait P R (r := 2 * r + 1) (ι := 0) (n := 3 + 2 * r) kind_loc own_loc (by show 2 * r + 1 < 5; omega) rfl rfl (cred_xn _) (by decide) (Nat.zero_le _) hO) $$ [Hc Hat HO]
  · isplitr; · iexact HC
    isplitl [Hc]; · iexact Hc
    isplitl [HO]; · iexact HO
    isplitl [Hat]; · iexact Hat
    iexact Hr
  rw [hpay]
  iintro ⟨HO, Hat, Hg⟩
  iapply (agWaits_spec P R c hr hO K Q) $$ [Hd HO]
  · isplitr; · iexact HC
    isplitl [Hd]; · iexact Hd
    iexact HO
  iintro ⟨Hd, HO⟩
  iapply Hk
  isplitl [Hat]; · iexact Hat
  isplitl [Hg]; · iexact Hg
  isplitl [Hl]; · iexact Hl
  isplitl [Hd]; · iexact Hd
  iexact HO

end Cert.MlpProof

end
-- ==== Proof.Layers.lean ====
/-
# The layers

A whole reduce-scatter, a whole gather, and from them the three layers: what a device holds at the start of each, and at
the end of the last.
-/
module

public import proofs.«01_k».proof.Proof.Phases

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : ℕ → Dev nD → Full F) (R : ℕ → Dev nD → Rows F)

/-- A buffer of the device at some contents. -/
def someM (c : Dev nD) {s : Shape} {e : EltTy} (M : Memref sig .tc .vmem s e) : sProp 𝕄 :=
  iprop(∃ X, owns (c : Thread nD τ) M fullShare X)

/-- The tokens of layer `r`'s reduce-scatter copies, of its gather's, and of the barrier's signals. -/
def rsToks (c : Dev nD) (r : ℕ) : sProp 𝕄 :=
  bigL offs fun j => iprop(dutyTok ER (rsSC c j) r 0 ∗ dutyTok ER (rsRC (nb c j) j) r 0)
def agToks (c : Dev nD) (r : ℕ) : sProp 𝕄 :=
  bigL offs fun j => iprop(dutyTok ER (agSC c j) r 0 ∗ dutyTok ER (agRC (nb c j) j) r 0)
def barToks (c : Dev nD) : sProp 𝕄 := bigL offs fun j => dutyTok ER (barC (nb c j)) 0 j

/-- The own cells at round `r`, and the credits of round `r`. -/
def rsSAt (c : Dev nD) (r : ℕ) : sProp 𝕄 := bigL offs fun j => atRound (rsSC c j) r
def rsRAt (c : Dev nD) (r : ℕ) : sProp 𝕄 := bigL offs fun j => atRound (rsRC c j) r
def agSAt (c : Dev nD) (r : ℕ) : sProp 𝕄 := bigL offs fun j => atRound (agSC c j) r
def agRAt (c : Dev nD) (r : ℕ) : sProp 𝕄 := bigL offs fun j => atRound (agRC c j) r
def rsCred (c : Dev nD) (r : ℕ) : sProp 𝕄 := bigL offs fun j => cred (tallyAt (rsRC c j) r N)
def agCred (c : Dev nD) (r : ℕ) : sProp 𝕄 := bigL offs fun j => cred (tallyAt (agRC c j) r N)

/-- The slots on the other devices that the next copies land in; the own slots for the others. -/
def slotsTo (c : Dev nD) (r : ℕ) : sProp 𝕄 :=
  bigL offs fun j => iprop(slotAny (F := F) (nb c j) j.succ ∗ reached ER (rsRC (nb c j) j) r)
def slotsOwn (c : Dev nD) : sProp 𝕄 := bigL offs fun j => slotAny (F := F) c j.succ

/-- The row blocks on the other devices that the next gather lands in. -/
def rowsTo (c : Dev nD) (r : ℕ) : sProp 𝕄 :=
  bigL offs fun j => iprop(xrowAny (F := F) (nb c j) c ∗ reached ER (agRC (nb c j) j) r)

def ownRow (c : Dev nD) (r : ℕ) : sProp 𝕄 := owns (c : Thread nD τ) (rowAt c).part fullShare (blk (P r c) c)

/-! ## A reduce-scatter -/

theorem reduce_spec (c : Dev nD) {r : ℕ} (hr : r < 3) {O : CellTallies nD τ sig ℕ} (hO : Above (2 + 2 * r) O)
    (v : FVec F S64x1024 .bf16) (hv : v = P r c) (K : FVec F S2x1024 .f32 → Code F PUnit) (Q : PUnit.{1} → sProp 𝕄) :
    iprop(Ctx P R ∗ someM c partM ∗ slotAny (F := F) c 0 ∗ (dutyTok ER (locC c) (2 * r) 0 ∗ atRound (locC c) (2 * r))
        ∗ (slotsTo c r ∗ (bigL offs fun j => rsExtra (F := F) (nb c j) c j r) ∗ rsSAt c r ∗ rsToks c r)
        ∗ (rsCred c r ∗ rsRAt c r) ∗ owesE c (owRs c r offs + O))
      ⊢ iprop(((slotAny (F := F) c 0 ∗ ownRow P c r ∗ atRound (locC c) (2 * r + 1) ∗ bigL offs (rsOut c r)
            ∗ rsRAt c (r + 1) ∗ slotsOwn c ∗ (bigL offs fun j => rsExtra (F := F) c (nb c (rev j)) j r) ∗ owesE c O)
            -∗ wpc c (K (accS P r c)) Q)
        -∗ wpc c (rsStart (nb c) (rowAt c) (fun j => rowAt (nb c j)) v (rsFold (rowAt c) (fun j => rowAt (nb c j)) K)) Q) := by
  have hpre : iprop(slotsTo c r ∗ (bigL offs fun j => rsExtra (F := F) (nb c j) c j r) ∗ rsSAt c r ∗ rsToks c r)
      ⊢ (bigL offs (rsSendPre c r) : sProp 𝕄) := by
    unfold slotsTo rsSAt rsToks
    rw [← bigL_sep, ← bigL_sep, ← bigL_sep]
    refine bigL_mono fun j => ?_
    unfold rsSendPre
    iintro ⟨⟨H1, H2⟩, H3, H4, H5, H6⟩
    isplitl [H1]; · iexact H1
    isplitl [H2]; · iexact H2
    isplitl [H3]; · iexact H3
    isplitl [H4]; · iexact H4
    isplitl [H5]; · iexact H5
    iexact H6
  have hdue : iprop(rsCred c r ∗ rsRAt c r) ⊢ (bigL offs (rsDue c r) : sProp 𝕄) := by
    unfold rsCred rsRAt
    rw [← bigL_sep]
    exact .rfl
  have hgot : bigL offs (rsGot P c r)
      ⊢ (iprop(rsRAt c (r + 1) ∗ slotsOwn c ∗ (bigL offs fun j => rsExtra (F := F) c (nb c (rev j)) j r)) : sProp 𝕄) := by
    unfold rsRAt slotsOwn
    rw [← bigL_sep, ← bigL_sep]
    refine bigL_mono fun j => ?_
    unfold rsGot rsPay slotAny
    iintro ⟨H1, H2, H3⟩
    isplitl [H1]; · iexact H1
    isplitl [H2]; · iexists _; iexact H2
    iexact H3
  unfold someM
  iintro ⟨#HC, Hp, Hs, ⟨Ht, Hat⟩, Hpre, Hdue, HO⟩ Hk
  ihave Hpre := hpre $$ Hpre
  ihave Hdue := hdue $$ Hdue
  iapply (rsStart_spec P R c hr O v hv _ Q) $$ [Hp Hs Ht Hat Hpre HO]
  · isplitr; · iexact HC
    isplitl [Hp]; · iexact Hp
    isplitl [Hs]; · iexact Hs
    isplitl [Ht Hat]
    · isplitl [Ht]; · iexact Ht
      iexact Hat
    isplitl [Hpre]; · iexact Hpre
    iexact HO
  iintro ⟨Hc, Hat, Hout, HO⟩
  iapply (rsFold_spec P R c hr hO K Q) $$ [Hc Hat Hdue HO]
  · isplitr; · iexact HC
    isplitl [Hc Hat]
    · isplitl [Hc]; · iexact Hc
      iexact Hat
    isplitl [Hdue]; · iexact Hdue
    iexact HO
  unfold locRs
  iintro ⟨Hat, ⟨Hs, Hrow⟩, Hgot, HO⟩
  ihave Hgot := hgot $$ Hgot
  icases Hgot with ⟨Hr, Hso, Hx⟩
  iapply Hk
  isplitl [Hs]; · unfold slotAny; iexists _; iexact Hs
  isplitl [Hrow]; · unfold ownRow; iexact Hrow
  isplitl [Hat]; · iexact Hat
  isplitl [Hout]; · iexact Hout
  isplitl [Hr]; · iexact Hr
  isplitl [Hso]; · iexact Hso
  isplitl [Hx]; · iexact Hx
  iexact HO

/-- Its copies' sources come back: the partial product is whole again. -/
theorem rsReturn_spec (c : Dev nD) {r : ℕ} (hr : r < 3) {O : CellTallies nD τ sig ℕ} {n : ℕ} (hO : Above n O)
    (K : Code F PUnit) (Q : PUnit.{1} → sProp 𝕄) :
    iprop(Ctx P R ∗ (ownRow P c r ∗ bigL offs (rsOut c r)) ∗ owesE c O)
      ⊢ iprop(((someM c partM ∗ rsSAt c (r + 1) ∗ owesE c O) -∗ wpc c K Q)
        -∗ wpc c (loopK (rsSendWaitAt (fun j => rowAt (nb c j))) K offs) Q) := by
  iintro ⟨#HC, ⟨Hrow, Hout⟩, HO⟩ Hk
  iapply (rsBack_spec P R c hr hO K Q) $$ [Hout HO]
  · isplitr; · iexact HC
    isplitl [Hout]; · iexact Hout
    iexact HO
  unfold rsBack
  rw [bigL_sep]
  iintro ⟨⟨Hat, Hrows⟩, HO⟩
  iapply Hk
  isplitl [Hrow Hrows]
  · unfold someM ownRow rsSPay
    iexists (P r c)
    rw [part_rows c (P r c)]
    isplitl [Hrow]; · iexact Hrow
    iexact Hrows
  isplitl [Hat]; · unfold rsSAt; iexact Hat
  iexact HO

/-! ## A gather -/

theorem spread_spec (c : Dev nD) {r : ℕ} (hr : r < 2) {O : CellTallies nD τ sig ℕ} (hO : Above (3 + 2 * r) O)
    (acc : FVec F S2x1024 .f32) (hacc : redVal acc = R r c) (K : Code F PUnit) (Q : PUnit.{1} → sProp 𝕄) :
    iprop(Ctx P R ∗ someM c redM ∗ xrowAny (F := F) c c ∗ (dutyTok ER (locC c) (2 * r + 1) 0 ∗ atRound (locC c) (2 * r + 1))
        ∗ (rowsTo c r ∗ slotsOwn c ∗ rsRAt c (r + 1) ∗ agSAt c r ∗ agToks c r) ∗ (agCred c r ∗ agRAt c r)
        ∗ owesE c (owAg c r offs + O))
      ⊢ iprop(((atRound (locC c) (2 * r + 2) ∗ owns (c : Thread nD τ) redM qLoc (R r c) ∗ owns (c : Thread nD τ) xnM fullShare (xOf (R r))
            ∗ bigL offs (agOut c r) ∗ agRAt c (r + 1) ∗ slotsTo c (r + 1) ∗ rsRAt c (r + 1) ∗ owesE c O) -∗ wpc c K Q)
        -∗ wpc c (gather (nb c) (rowAt c) acc K) Q) := by
  have hpre : iprop(rowsTo c r ∗ slotsOwn c ∗ rsRAt c (r + 1) ∗ agSAt c r ∗ agToks c r)
      ⊢ (iprop(bigL offs (agSendPre c r) ∗ rsRAt c (r + 1)) : sProp 𝕄) := by
    have h1 : rsRAt c (r + 1) ⊢ (iprop((bigL offs fun j => reached ER (rsRC c j) (r + 1)) ∗ rsRAt c (r + 1)) : sProp 𝕄) := by
      unfold rsRAt
      rw [← bigL_sep]
      refine bigL_mono fun j => ?_
      iintro ⟨H, #Hr⟩
      isplitr; · iexact Hr
      isplitl [H]; · iexact H
      iexact Hr
    have h2 : iprop(rowsTo c r ∗ (slotsOwn c ∗ bigL offs fun j => reached ER (rsRC c j) (r + 1)) ∗ agSAt c r ∗ agToks c r)
        ⊢ (bigL offs (agSendPre c r) : sProp 𝕄) := by
      unfold rowsTo slotsOwn agSAt agToks
      rw [← bigL_sep (fun j => slotAny (F := F) c j.succ), bigL_rev (fun j => iprop(slotAny (F := F) c j.succ ∗ _)), ← bigL_sep, ← bigL_sep, ← bigL_sep]
      refine bigL_mono fun j => ?_
      unfold agSendPre
      iintro ⟨H1, H2, H3, H4, H5⟩
      isplitl [H1]; · iexact H1
      isplitl [H2]; · iexact H2
      isplitl [H3]; · iexact H3
      isplitl [H4]; · iexact H4
      iexact H5
    iintro ⟨H1, H2, H3, H4, H5⟩
    ihave H3 := h1 $$ H3
    icases H3 with ⟨H3, H6⟩
    isplitr [H6]; swap; · iexact H6
    iapply h2
    isplitl [H1]; · iexact H1
    isplitl [H2 H3]
    · isplitl [H2]; · iexact H2
      iexact H3
    isplitl [H4]; · iexact H4
    iexact H5
  have hdue : iprop(agCred c r ∗ agRAt c r) ⊢ (bigL offs (agDue c r) : sProp 𝕄) := by
    unfold agCred agRAt
    rw [← bigL_sep]
    exact .rfl
  have hgot : bigL offs (agGot R c r)
      ⊢ (iprop(agRAt c (r + 1) ∗ (bigL offs fun j => owns (c : Thread nD τ) (rowAt (nb c j)).xn fullShare (R r (nb c j))) ∗ slotsTo c (r + 1)) : sProp 𝕄) := by
    unfold agRAt slotsTo
    rw [bigL_rev (fun j => owns (c : Thread nD τ) (rowAt (nb c j)).xn fullShare (R r (nb c j))),
      bigL_rev (fun j => iprop(slotAny (F := F) (nb c j) j.succ ∗ _)), ← bigL_sep, ← bigL_sep]
    refine bigL_mono fun j => ?_
    unfold agGot agPay
    iintro ⟨H1, H2, H3⟩
    isplitl [H1]; · iexact H1
    isplitl [H2]; · iexact H2
    iexact H3
  unfold someM
  iintro ⟨#HC, Hp, Hx, ⟨Ht, Hat⟩, Hpre, Hdue, HO⟩ Hk
  ihave Hpre := hpre $$ Hpre
  icases Hpre with ⟨Hpre, HrsR⟩
  ihave Hdue := hdue $$ Hdue
  iapply (gather_spec P R c hr hO acc hacc K Q) $$ [Hp Hx Ht Hat Hpre Hdue HO]
  · isplitr; · iexact HC
    isplitl [Hp]; · iexact Hp
    isplitl [Hx]; · iexact Hx
    isplitl [Ht Hat]
    · isplitl [Ht]; · iexact Ht
      iexact Hat
    isplitl [Hpre]; · iexact Hpre
    isplitl [Hdue]; · iexact Hdue
    iexact HO
  unfold locAg
  iintro ⟨Hat, ⟨Hrow, Hred⟩, Hout, Hgot, HO⟩
  ihave Hgot := hgot $$ Hgot
  icases Hgot with ⟨Hr, Hrows, Hst⟩
  iapply Hk
  isplitl [Hat]; · iexact Hat
  isplitl [Hred]; · iexact Hred
  isplitl [Hrow Hrows]
  · rw [xn_rows c (R r)]
    isplitl [Hrow]; · iexact Hrow
    iexact Hrows
  isplitl [Hout]; · iexact Hout
  isplitl [Hr]; · iexact Hr
  isplitl [Hst]; · iexact Hst
  isplitl [HrsR]; · iexact HrsR
  iexact HO

/-- Its copies' sources come back: the reduced rows are whole again. -/
theorem agReturn_spec (c : Dev nD) {r : ℕ} (hr : r < 2) {O : CellTallies nD τ sig ℕ} {n : ℕ} (hO : Above n O)
    (K : Code F PUnit) (Q : PUnit.{1} → sProp 𝕄) :
    iprop(Ctx P R ∗ (owns (c : Thread nD τ) redM qLoc (R r c) ∗ bigL offs (agOut c r)) ∗ owesE c O)
      ⊢ iprop(((someM c redM ∗ agSAt c (r + 1) ∗ owesE c O) -∗ wpc c K Q)
        -∗ wpc c (loopK (agSendWaitAt (rowAt c)) K offs) Q) := by
  iintro ⟨#HC, ⟨Hrow, Hout⟩, HO⟩ Hk
  iapply (agBack_spec P R c hr hO K Q) $$ [Hout HO]
  · isplitr; · iexact HC
    isplitl [Hout]; · iexact Hout
    iexact HO
  unfold agBack
  rw [bigL_sep]
  iintro ⟨⟨Hat, Hrows⟩, HO⟩
  iapply Hk
  isplitl [Hrow Hrows]
  · unfold someM agSPay
    iexists (R r c)
    rw [red_shares c (R r c)]
    isplitl [Hrow]; · iexact Hrow
    iexact Hrows
  isplitl [Hat]; · unfold agSAt; iexact Hat
  iexact HO

/-! ## The last layer -/

/-- The cells at the end. -/
def cellsEnd (c : Dev nD) : sProp 𝕄 :=
  iprop(rsSAt c 3 ∗ rsRAt c 3 ∗ agSAt c 2 ∗ agRAt c 2 ∗ atRound (locC c) 5)
/-- The scratch buffers. -/
def scratch (c : Dev nD) : sProp 𝕄 :=
  iprop(someM c partM ∗ (slotAny (F := F) c 0 ∗ slotsOwn c) ∗ someM c redM ∗ someM c xnM)

/-- What a device holds when its gather of layer `r` is over. -/
def afterGather (c : Dev nD) (r : ℕ) : sProp 𝕄 :=
  iprop(owns (c : Thread nD τ) xnM fullShare (xOf (R r)) ∗ (ownRow P c r ∗ bigL offs (rsOut c r))
    ∗ (owns (c : Thread nD τ) redM qLoc (R r c) ∗ bigL offs (agOut c r)) ∗ slotAny (F := F) c 0 ∗ atRound (locC c) (2 * r + 2)
    ∗ slotsTo c (r + 1) ∗ rsRAt c (r + 1) ∗ agRAt c (r + 1))

theorem noExtra (Φ Ψ : Fin 31 → Dev nD) {r : ℕ} (h : r ≠ 1) :
    (iprop(emp) : sProp 𝕄) ⊢ bigL offs fun j => rsExtra (F := F) (Φ j) (Ψ j) j r := by
  have e : (fun j => rsExtra (F := F) (Φ j) (Ψ j) j r) = fun _ => iprop(emp) := funext fun j => if_neg h
  rw [e]
  have h : ∀ l : List (Fin 31), (iprop(emp) : sProp 𝕄) ⊢ bigL l fun _ => iprop(emp) := by
    intro l
    induction l with
    | nil => exact .rfl
    | cons j l ih =>
      unfold bigL
      iintro -
      isplitr; · iempintro
      iapply ih
      iempintro
  exact h offs

theorem layer2_eq (dev : Fin 31 → Dev nD) (own : RowOff) (oth : Fin 31 → RowOff) :
    (layer2 dev own oth : Code F PUnit)
      = .op (.load xnM rect64.toLoadRect (View.loadsAt_vmem h_S64x1024)) fun xv =>
        .op (.load wi2M rectIn.toLoadRect (View.loadsAt_vmem h_S1024x2048)) fun wi =>
        .op (.load wo2M rectOut.toLoadRect (View.loadsAt_vmem h_S2048x1024)) fun wo =>
        loopK (rsSendWaitAt oth)
          (rsStart dev own oth (partOf xv wi wo) (rsFold own oth fun acc =>
            .op (.load outM rect2.toLoadRect (View.loadsAt_vmem h_S2x1024)) fun _ =>
            .op (.store outM rect2 acc Finset.univ (View.stores_vmem_bits_univ h_S2x1024 rfl) (.inl rfl)) fun _ =>
            loopK (agSendWaitAt own) (loopK (rsSendWaitAt oth) (.ret ⟨⟩) offs) offs)) offs := rfl

theorem layer2_spec (c : Dev nD) (wi : Vec F S1024x2048 .f32) (wo : Vec F S2048x1024 .f32)
    (hv : partOf (xOf (R 1)) wi wo = P 2 c) (Q : PUnit.{1} → sProp 𝕄) :
    iprop(Ctx P R ∗ afterGather P R c 1 ∗ (owns (c : Thread nD τ) wi2M fullShare wi ∗ owns (c : Thread nD τ) wo2M fullShare wo)
        ∗ someM c outM ∗ dutyTok ER (locC c) 4 0 ∗ rsToks c 2 ∗ rsCred c 2 ∗ owesE c (owe5 c))
      ⊢ iprop(((cellsEnd c ∗ scratch c ∗ (owns (c : Thread nD τ) wi2M fullShare wi ∗ owns (c : Thread nD τ) wo2M fullShare wo)
            ∗ owns (c : Thread nD τ) outM fullShare (accS P 2 c) ∗ owesE c 0) -∗ Q ⟨⟩)
        -∗ wpc c (layer2 (nb c) (rowAt c) (fun j => rowAt (nb c j))) Q) := by
  rw [layer2_eq]
  unfold afterGather
  iintro ⟨#HC, ⟨Hx, Hrs, Hag, Hs, Hat, Hst, HrsR, HagR⟩, ⟨Hwi, Hwo⟩, Hout, Ht, Htok, Hcr, HO⟩ Hk
  iapply (step_load (M := xnM) (whole_load cc0_scratch3 hz inb_S64x1024_S64x1024_0_0) (whole_sub cc0_scratch3 _)) $$ Hx
  iintro Hx
  iapply (step_load (M := wi2M) (whole_load cc0_stg5_0 hz inb_S1024x2048_S1024x2048_0_0) (whole_sub cc0_stg5_0 _)) $$ Hwi
  iintro Hwi
  iapply (step_load (M := wo2M) (whole_load cc0_stg6_0 hz inb_S2048x1024_S2048x1024_0_0) (whole_sub cc0_stg6_0 _)) $$ Hwo
  iintro Hwo
  iapply (rsReturn_spec P R c (r := 1) (by decide) (above5 c) _ Q) $$ [Hrs HO]
  · isplitr; · iexact HC
    isplitl [Hrs]; · iexact Hrs
    iexact HO
  iintro ⟨Hp, HrsS, HO⟩
  ihave He := (show (iprop(emp) : sProp 𝕄) ⊢ bigL offs fun j => rsExtra (F := F) (nb c j) c j 2 from
    noExtra (fun j => nb c j) (fun _ => c) (by decide)) $$ []
  · iempintro
  iapply (reduce_spec P R c (r := 2) (by decide) (O := 0) (Above.zero _) _ hv _ Q) $$ [Hp Hs Ht Hat Hst He HrsS Htok Hcr HrsR HO]
  · isplitr; · iexact HC
    isplitl [Hp]; · iexact Hp
    isplitl [Hs]; · iexact Hs
    isplitl [Ht Hat]
    · isplitl [Ht]; · iexact Ht
      iexact Hat
    isplitl [Hst He HrsS Htok]
    · isplitl [Hst]; · iexact Hst
      isplitl [He]; · iexact He
      isplitl [HrsS]; · iexact HrsS
      iexact Htok
    isplitl [Hcr HrsR]
    · isplitl [Hcr]; · iexact Hcr
      iexact HrsR
    rw [show owRs c 2 offs + 0 = owe5 c from add_zero _]
    iexact HO
  iintro ⟨Hs, Hrow, Hat, Hrs, HrsR, Hso, -, HO⟩
  unfold someM
  icases Hout with ⟨%X, Hout⟩
  iapply (step_load (M := outM) (whole_load cc0_stg7_0 hz inb_S2x1024_S2x1024_0_0) (whole_sub cc0_stg7_0 _)) $$ Hout
  iintro Hout
  iapply (step_store (M := outM) (X' := accS P 2 c)
    (fun f => whole_store cc0_stg7_0 hz inb_S2x1024_S2x1024_0_0 f (accS P 2 c)) (whole_sub cc0_stg7_0 _)) $$ [Hout]
  · iexists X; iexact Hout
  iintro Hout
  iapply (agReturn_spec P R c (r := 1) (by decide) (n := 0) (Above.zero _) _ Q) $$ [Hag HO]
  · isplitr; · iexact HC
    isplitl [Hag]; · iexact Hag
    iexact HO
  iintro ⟨Hred, HagS, HO⟩
  iapply (rsReturn_spec P R c (r := 2) (by decide) (n := 0) (Above.zero _) _ Q) $$ [Hrow Hrs HO]
  · isplitr; · iexact HC
    isplitl [Hrow Hrs]
    · isplitl [Hrow]; · iexact Hrow
      iexact Hrs
    iexact HO
  iintro ⟨Hp, HrsS, HO⟩
  simp only [wpc, wp_ret]
  imodintro
  iapply Hk
  isplitl [HrsS HrsR HagS HagR Hat]
  · unfold cellsEnd
    isplitl [HrsS]; · iexact HrsS
    isplitl [HrsR]; · iexact HrsR
    isplitl [HagS]; · iexact HagS
    isplitl [HagR]; · iexact HagR
    iexact Hat
  isplitl [Hp Hs Hso Hred Hx]
  · unfold scratch
    isplitl [Hp]; · iexact Hp
    isplitl [Hs Hso]
    · isplitl [Hs]; · iexact Hs
      iexact Hso
    isplitl [Hred]; · iexact Hred
    unfold someM
    iexists _; iexact Hx
  isplitl [Hwi Hwo]
  · isplitl [Hwi]; · iexact Hwi
    iexact Hwo
  isplitl [Hout]; · iexact Hout
  iexact HO

/-! ## The middle layer -/

/-- What lies ready for the last layer. -/
def ready2 (c : Dev nD) (wi : Vec F S1024x2048 .f32) (wo : Vec F S2048x1024 .f32) : sProp 𝕄 :=
  iprop((owns (c : Thread nD τ) wi2M fullShare wi ∗ owns (c : Thread nD τ) wo2M fullShare wo)
    ∗ someM c outM ∗ dutyTok ER (locC c) 4 0 ∗ rsToks c 2 ∗ rsCred c 2)

/-- What a device holds at the end, over its inputs' buffers. -/
def end2 (c : Dev nD) (wi : Vec F S1024x2048 .f32) (wo : Vec F S2048x1024 .f32) : sProp 𝕄 :=
  iprop(cellsEnd c ∗ scratch c ∗ (owns (c : Thread nD τ) wi2M fullShare wi ∗ owns (c : Thread nD τ) wo2M fullShare wo)
    ∗ owns (c : Thread nD τ) outM fullShare (accS P 2 c) ∗ owesE c 0)

theorem layer1_eq (dev : Fin 31 → Dev nD) (own : RowOff) (oth : Fin 31 → RowOff) :
    (layer1 dev own oth : Code F PUnit)
      = .op (.load xnM rect64.toLoadRect (View.loadsAt_vmem h_S64x1024)) fun xv =>
        .op (.load wi1M rectIn.toLoadRect (View.loadsAt_vmem h_S1024x2048)) fun wi =>
        .op (.load wo1M rectOut.toLoadRect (View.loadsAt_vmem h_S2048x1024)) fun wo =>
        loopK (rsSendWaitAt oth)
          (rsStart dev own oth (partOf xv wi wo) (rsFold own oth fun acc =>
            loopK (agSendWaitAt own) (gather dev own acc (layer2 dev own oth)) offs)) offs := rfl

theorem layer1_spec (c : Dev nD) (wi1 wi2 : Vec F S1024x2048 .f32) (wo1 wo2 : Vec F S2048x1024 .f32)
    (hv1 : partOf (xOf (R 0)) wi1 wo1 = P 1 c) (hR : redVal (accS P 1 c) = R 1 c)
    (hv2 : partOf (xOf (R 1)) wi2 wo2 = P 2 c) (Q : PUnit.{1} → sProp 𝕄) :
    iprop(Ctx P R ∗ afterGather P R c 0 ∗ (owns (c : Thread nD τ) wi1M fullShare wi1 ∗ owns (c : Thread nD τ) wo1M fullShare wo1)
        ∗ ready2 c wi2 wo2 ∗ (dutyTok ER (locC c) 2 0 ∗ dutyTok ER (locC c) 3 0) ∗ rsToks c 1 ∗ agToks c 1 ∗ rsCred c 1 ∗ agCred c 1
        ∗ owesE c (owe3 c))
      ⊢ iprop(((end2 P c wi2 wo2 ∗ owns (c : Thread nD τ) wi1M fullShare wi1 ∗ owns (c : Thread nD τ) wo1M fullShare wo1) -∗ Q ⟨⟩)
        -∗ wpc c (layer1 (nb c) (rowAt c) (fun j => rowAt (nb c j))) Q) := by
  -- after the load, the next-layer input is handed out row block by row block
  have hex : iprop((bigL offs fun j => xrowAny (F := F) c (nb c j)) ∗ agRAt c 1)
      ⊢ (iprop((bigL offs fun j => rsExtra (F := F) (nb c j) c j 1) ∗ agRAt c 1) : sProp 𝕄) := by
    have e : (fun j => rsExtra (F := F) (nb c j) c j 1) = fun j => iprop(xrowAny (F := F) c (nb c j) ∗ reached ER (agRC c (rev j)) 1) :=
      funext fun j => if_pos rfl
    have h1 : agRAt c 1 ⊢ (iprop((bigL offs fun j => reached ER (agRC c j) 1) ∗ agRAt c 1) : sProp 𝕄) := by
      unfold agRAt
      rw [← bigL_sep]
      refine bigL_mono fun j => ?_
      iintro ⟨H, #Hr⟩
      isplitr; · iexact Hr
      isplitl [H]; · iexact H
      iexact Hr
    rw [e, bigL_sep, ← bigL_rev (fun j => reached ER (agRC c j) 1)]
    iintro ⟨H1, H2⟩
    ihave H2 := h1 $$ H2
    icases H2 with ⟨H2, H3⟩
    isplitr [H3]; swap; · iexact H3
    isplitl [H1]; · iexact H1
    iexact H2
  have hrt : (bigL offs fun j => rsExtra (F := F) c (nb c (rev j)) j 1) ⊢ (rowsTo c 1 : sProp 𝕄) := by
    unfold rowsTo
    have e : (fun j => rsExtra (F := F) c (nb c (rev j)) j 1)
        = fun j => iprop(xrowAny (F := F) (nb c (rev j)) c ∗ reached ER (agRC (nb c (rev j)) (rev j)) 1) := funext fun j => if_pos rfl
    rw [e, bigL_rev (fun j => iprop(xrowAny (F := F) (nb c j) c ∗ _))]
  rw [layer1_eq]
  unfold afterGather ready2 end2
  iintro ⟨#HC, ⟨Hx, Hrs, Hag, Hs, Hat, Hst, HrsR, HagR⟩, ⟨Hwi, Hwo⟩, ⟨Hw2, Hout, Ht4, Htok2, Hcr2⟩, ⟨Ht2, Ht3⟩, Htok, Hatok, Hcr, Hacr, HO⟩ Hk
  iapply (step_load (M := xnM) (whole_load cc0_scratch3 hz inb_S64x1024_S64x1024_0_0) (whole_sub cc0_scratch3 _)) $$ Hx
  iintro Hx
  iapply (step_load (M := wi1M) (whole_load cc0_stg3_0 hz inb_S1024x2048_S1024x2048_0_0) (whole_sub cc0_stg3_0 _)) $$ Hwi
  iintro Hwi
  iapply (step_load (M := wo1M) (whole_load cc0_stg4_0 hz inb_S2048x1024_S2048x1024_0_0) (whole_sub cc0_stg4_0 _)) $$ Hwo
  iintro Hwo
  iapply (rsReturn_spec P R c (r := 0) (by decide) (above3 c) _ Q) $$ [Hrs HO]
  · isplitr; · iexact HC
    isplitl [Hrs]; · iexact Hrs
    iexact HO
  iintro ⟨Hp, HrsS, HO⟩
  ihave Hx := (xn_any c (xOf (R 0))) $$ Hx
  icases Hx with ⟨Hxo, Hxs⟩
  ihave He := hex $$ [Hxs HagR]
  · isplitl [Hxs]; · iexact Hxs
    iexact HagR
  icases He with ⟨He, HagR⟩
  iapply (reduce_spec P R c (r := 1) (by decide) (above4 c) _ hv1 _ Q) $$ [Hp Hs Ht2 Hat Hst He HrsS Htok Hcr HrsR HO]
  · isplitr; · iexact HC
    isplitl [Hp]; · iexact Hp
    isplitl [Hs]; · iexact Hs
    isplitl [Ht2 Hat]
    · isplitl [Ht2]; · iexact Ht2
      iexact Hat
    isplitl [Hst He HrsS Htok]
    · isplitl [Hst]; · iexact Hst
      isplitl [He]; · iexact He
      isplitl [HrsS]; · iexact HrsS
      iexact Htok
    isplitl [Hcr HrsR]
    · isplitl [Hcr]; · iexact Hcr
      iexact HrsR
    iexact HO
  iintro ⟨Hs, Hrow, Hat, Hrs, HrsR, Hso, He, HO⟩
  ihave Hrt := hrt $$ He
  iapply (agReturn_spec P R c (r := 0) (by decide) (above4 c) _ Q) $$ [Hag HO]
  · isplitr; · iexact HC
    isplitl [Hag]; · iexact Hag
    iexact HO
  iintro ⟨Hred, HagS, HO⟩
  iapply (spread_spec P R c (r := 1) (by decide) (O := owe5 c) (above5 c) _ hR _ Q) $$ [Hred Hxo Ht3 Hat Hrt Hso HrsR HagS Hatok Hacr HagR HO]
  · isplitr; · iexact HC
    isplitl [Hred]; · iexact Hred
    isplitl [Hxo]; · iexact Hxo
    isplitl [Ht3 Hat]
    · isplitl [Ht3]; · iexact Ht3
      iexact Hat
    isplitl [Hrt Hso HrsR HagS Hatok]
    · isplitl [Hrt]; · iexact Hrt
      isplitl [Hso]; · iexact Hso
      isplitl [HrsR]; · iexact HrsR
      isplitl [HagS]; · iexact HagS
      iexact Hatok
    isplitl [Hacr HagR]
    · isplitl [Hacr]; · iexact Hacr
      iexact HagR
    iexact HO
  iintro ⟨Hat, Hred, Hx, Hag, HagR, Hst, HrsR, HO⟩
  iapply (layer2_spec P R c wi2 wo2 hv2 Q) $$ [Hat Hred Hx Hag HagR Hst HrsR HO Hrow Hrs Hs Hw2 Hout Ht4 Htok2 Hcr2]
  · isplitr; · iexact HC
    isplitl [Hat Hred Hx Hag HagR Hst HrsR Hrow Hrs Hs]
    · unfold afterGather
      isplitl [Hx]; · iexact Hx
      isplitl [Hrow Hrs]
      · isplitl [Hrow]; · iexact Hrow
        iexact Hrs
      isplitl [Hred Hag]
      · isplitl [Hred]; · iexact Hred
        iexact Hag
      isplitl [Hs]; · iexact Hs
      isplitl [Hat]; · iexact Hat
      isplitl [Hst]; · iexact Hst
      isplitl [HrsR]; · iexact HrsR
      iexact HagR
    isplitl [Hw2]; · iexact Hw2
    isplitl [Hout]; · iexact Hout
    isplitl [Ht4]; · iexact Ht4
    isplitl [Htok2]; · iexact Htok2
    isplitl [Hcr2]; · iexact Hcr2
    iexact HO
  iintro H
  iapply Hk
  isplitl [H]; · iexact H
  isplitl [Hwi]; · iexact Hwi
  iexact Hwo

/-! ## The first layer -/

/-- What lies ready for the middle layer. -/
def ready1 (c : Dev nD) (wi : Vec F S1024x2048 .f32) (wo : Vec F S2048x1024 .f32) : sProp 𝕄 :=
  iprop((owns (c : Thread nD τ) wi1M fullShare wi ∗ owns (c : Thread nD τ) wo1M fullShare wo)
    ∗ (dutyTok ER (locC c) 2 0 ∗ dutyTok ER (locC c) 3 0) ∗ rsToks c 1 ∗ agToks c 1 ∗ rsCred c 1 ∗ agCred c 1)

/-- What lies ready for the first. -/
def ready0 (c : Dev nD) (x : Vec F S64x1024 .f32) (wi : Vec F S1024x2048 .f32) (wo : Vec F S2048x1024 .f32) : sProp 𝕄 :=
  iprop((owns (c : Thread nD τ) xM fullShare x ∗ owns (c : Thread nD τ) wi0M fullShare wi ∗ owns (c : Thread nD τ) wo0M fullShare wo)
    ∗ (dutyTok ER (locC c) 0 0 ∗ dutyTok ER (locC c) 1 0) ∗ barToks c ∗ rsToks c 0 ∗ agToks c 0 ∗ rsCred c 0 ∗ agCred c 0
    ∗ cred (tallyAt (barC c) 0 31))

/-- The cells at the start. -/
def cellsStart (c : Dev nD) : sProp 𝕄 :=
  iprop(atRound (barC c) 0 ∗ rsSAt c 0 ∗ rsRAt c 0 ∗ agSAt c 0 ∗ agRAt c 0 ∗ atRound (locC c) 0)

theorem layer0_eq (dev : Fin 31 → Dev nD) (own : RowOff) (oth : Fin 31 → RowOff) :
    (layer0 dev own oth : Code F PUnit)
      = loopK (sigAt dev)
        (.op (.load xM rect64.toLoadRect (View.loadsAt_vmem h_S64x1024)) fun xv =>
          .op (.load wi0M rectIn.toLoadRect (View.loadsAt_vmem h_S1024x2048)) fun wi =>
          .op (.load wo0M rectOut.toLoadRect (View.loadsAt_vmem h_S2048x1024)) fun wo =>
          semWaitWord barS 31#32 >>= fun _ =>
          rsStart dev own oth (k0_pay1 xv wi wo) (rsFold own oth fun acc => gather dev own acc (layer1 dev own oth))) offs := rfl

theorem layer0_spec (c : Dev nD) (x : Vec F S64x1024 .f32) (wi0 wi1 wi2 : Vec F S1024x2048 .f32) (wo0 wo1 wo2 : Vec F S2048x1024 .f32)
    (hv0 : k0_pay1 x wi0 wo0 = P 0 c) (hR0 : redVal (accS P 0 c) = R 0 c)
    (hv1 : partOf (xOf (R 0)) wi1 wo1 = P 1 c) (hR1 : redVal (accS P 1 c) = R 1 c)
    (hv2 : partOf (xOf (R 1)) wi2 wo2 = P 2 c) (Q : PUnit.{1} → sProp 𝕄) :
    iprop(Ctx P R ∗ scratch c ∗ cellsStart c ∗ ready0 c x wi0 wo0 ∗ ready1 c wi1 wo1 ∗ ready2 c wi2 wo2 ∗ owesE c (O₀ c))
      ⊢ iprop(((end2 P c wi2 wo2 ∗ (owns (c : Thread nD τ) wi1M fullShare wi1 ∗ owns (c : Thread nD τ) wo1M fullShare wo1)
            ∗ (owns (c : Thread nD τ) xM fullShare x ∗ owns (c : Thread nD τ) wi0M fullShare wi0 ∗ owns (c : Thread nD τ) wo0M fullShare wo0)
            ∗ atRound (barC c) 1) -∗ Q ⟨⟩)
        -∗ wpc c (layer0 (nb c) (rowAt c) (fun j => rowAt (nb c j))) Q) := by
  have hsig : iprop(barToks c ∗ slotsOwn c ∗ bigL offs fun j => xrowAny (F := F) c (nb c j))
      ⊢ (bigL offs fun j => iprop(dutyTok ER (barC (nb c j)) 0 j ∗ perm (F := F) (nb c j) (rev j)) : sProp 𝕄) := by
    unfold barToks slotsOwn
    rw [bigL_rev (fun j => slotAny (F := F) c j.succ), ← bigL_sep, ← bigL_sep]
    refine bigL_mono fun j => ?_
    unfold perm
    rw [nb_rev]
  have hbar : iprop(Ctx P R ∗ bigL offs (perm (F := F) c)) ⊢ (iprop(slotsTo c 0 ∗ rowsTo c 0) : sProp 𝕄) := by
    unfold slotsTo rowsTo
    rw [← bigL_sep]
    refine bigL_with fun j => ?_
    unfold perm
    iintro ⟨#HC, H1, H2⟩
    isplitl [H1]
    · isplitl [H1]; · iexact H1
      iapply (ctx_reached P R (own_rsR j) (nb c j)); iexact HC
    isplitl [H2]; · iexact H2
    iapply (ctx_reached P R (own_agR j) (nb c j)); iexact HC
  rw [layer0_eq]
  unfold scratch cellsStart ready0 ready1
  iintro ⟨#HC, ⟨Hp, ⟨Hs, Hso⟩, Hred, Hxn⟩, ⟨HatB, HrsS, HrsR, HagS, HagR, Hat⟩,
    ⟨⟨Hx, Hwi, Hwo⟩, ⟨Ht0, Ht1⟩, HtB, Htok, Hatok, Hcr, Hacr, HcB⟩,
    ⟨Hw1, Ht23, Htok1, Hatok1, Hcr1, Hacr1⟩, Hr2, HO⟩ Hk
  unfold someM
  icases Hxn with ⟨%Y, Hxn⟩
  ihave Hxn := (xn_any c Y) $$ Hxn
  icases Hxn with ⟨Hxo, Hxs⟩
  ihave Hsig := hsig $$ [HtB Hso Hxs]
  · isplitl [HtB]; · iexact HtB
    isplitl [Hso]; · iexact Hso
    iexact Hxs
  iapply (signals_spec P R c _ Q) $$ [Hsig HO]
  · isplitr; · iexact HC
    isplitl [Hsig]; · iexact Hsig
    iexact HO
  iintro HO
  iapply (step_load (M := xM) (whole_load cc0_stg0_0 hz inb_S64x1024_S64x1024_0_0) (whole_sub cc0_stg0_0 _)) $$ Hx
  iintro Hx
  iapply (step_load (M := wi0M) (whole_load cc0_stg1_0 hz inb_S1024x2048_S1024x2048_0_0) (whole_sub cc0_stg1_0 _)) $$ Hwi
  iintro Hwi
  iapply (step_load (M := wo0M) (whole_load cc0_stg2_0 hz inb_S2048x1024_S2048x1024_0_0) (whole_sub cc0_stg2_0 _)) $$ Hwo
  iintro Hwo
  iapply (step_barrier P R (above1 c)) $$ [HcB HO HatB]
  · isplitr; · iexact HC
    isplitl [HcB]; · iexact HcB
    isplitl [HO]; · iexact HO
    iexact HatB
  iintro ⟨HO, HatB, Hperm⟩
  ihave Hperm := hbar $$ [Hperm]
  · isplitr; · iexact HC
    iexact Hperm
  icases Hperm with ⟨Hst, Hrt⟩
  ihave He := (show (iprop(emp) : sProp 𝕄) ⊢ bigL offs fun j => rsExtra (F := F) (nb c j) c j 0 from
    noExtra (fun j => nb c j) (fun _ => c) (by decide)) $$ []
  · iempintro
  iapply (reduce_spec P R c (r := 0) (by decide) (above2 c) _ hv0 _ Q) $$ [Hp Hs Ht0 Hat Hst He HrsS Htok Hcr HrsR HO]
  · isplitr; · iexact HC
    isplitl [Hp]; · unfold someM; iexact Hp
    isplitl [Hs]; · iexact Hs
    isplitl [Ht0 Hat]
    · isplitl [Ht0]; · iexact Ht0
      iexact Hat
    isplitl [Hst He HrsS Htok]
    · isplitl [Hst]; · iexact Hst
      isplitl [He]; · iexact He
      isplitl [HrsS]; · iexact HrsS
      iexact Htok
    isplitl [Hcr HrsR]
    · isplitl [Hcr]; · iexact Hcr
      iexact HrsR
    iexact HO
  iintro ⟨Hs, Hrow, Hat, Hrs, HrsR, Hso, -, HO⟩
  iapply (spread_spec P R c (r := 0) (by decide) (O := owe3 c) (above3 c) _ hR0 _ Q) $$ [Hred Hxo Ht1 Hat Hrt Hso HrsR HagS Hatok Hacr HagR HO]
  · isplitr; · iexact HC
    isplitl [Hred]; · unfold someM; iexact Hred
    isplitl [Hxo]; · iexact Hxo
    isplitl [Ht1 Hat]
    · isplitl [Ht1]; · iexact Ht1
      iexact Hat
    isplitl [Hrt Hso HrsR HagS Hatok]
    · isplitl [Hrt]; · iexact Hrt
      isplitl [Hso]; · iexact Hso
      isplitl [HrsR]; · iexact HrsR
      isplitl [HagS]; · iexact HagS
      iexact Hatok
    isplitl [Hacr HagR]
    · isplitl [Hacr]; · iexact Hacr
      iexact HagR
    iexact HO
  iintro ⟨Hat, Hred, Hxn, Hag, HagR, Hst, HrsR, HO⟩
  icases Hw1 with ⟨Hwi1, Hwo1⟩
  iapply (layer1_spec P R c wi1 wi2 wo1 wo2 hv1 hR1 hv2 Q) $$ [Hat Hred Hxn Hag HagR Hst HrsR HO Hrow Hrs Hs Hwi1 Hwo1 Ht23 Htok1 Hatok1 Hcr1 Hacr1 Hr2]
  · isplitr; · iexact HC
    isplitl [Hat Hred Hxn Hag HagR Hst HrsR Hrow Hrs Hs]
    · unfold afterGather
      isplitl [Hxn]; · iexact Hxn
      isplitl [Hrow Hrs]
      · isplitl [Hrow]; · iexact Hrow
        iexact Hrs
      isplitl [Hred Hag]
      · isplitl [Hred]; · iexact Hred
        iexact Hag
      isplitl [Hs]; · iexact Hs
      isplitl [Hat]; · iexact Hat
      isplitl [Hst]; · iexact Hst
      isplitl [HrsR]; · iexact HrsR
      iexact HagR
    isplitl [Hwi1 Hwo1]
    · isplitl [Hwi1]; · iexact Hwi1
      iexact Hwo1
    isplitl [Hr2]; · iexact Hr2
    isplitl [Ht23]; · iexact Ht23
    isplitl [Htok1]; · iexact Htok1
    isplitl [Hatok1]; · iexact Hatok1
    isplitl [Hcr1]; · iexact Hcr1
    isplitl [Hacr1]; · iexact Hacr1
    iexact HO
  iintro ⟨He2, Hw1⟩
  iapply Hk
  isplitl [He2]; · iexact He2
  isplitl [Hw1]; · iexact Hw1
  isplitl [Hx Hwi Hwo]
  · isplitl [Hx]; · iexact Hx
    isplitl [Hwi]; · iexact Hwi
    iexact Hwo
  iexact HatB

/-- The body, from what a device holds when it enters to what it leaves. -/
theorem prog_spec (c : Dev nD) (x : Vec F S64x1024 .f32) (wi0 wi1 wi2 : Vec F S1024x2048 .f32) (wo0 wo1 wo2 : Vec F S2048x1024 .f32)
    (hv0 : k0_pay1 x wi0 wo0 = P 0 c) (hR0 : redVal (accS P 0 c) = R 0 c)
    (hv1 : partOf (xOf (R 0)) wi1 wo1 = P 1 c) (hR1 : redVal (accS P 1 c) = R 1 c)
    (hv2 : partOf (xOf (R 1)) wi2 wo2 = P 2 c) (Q : PUnit.{1} → sProp 𝕄) :
    iprop(Ctx P R ∗ scratch c ∗ cellsStart c ∗ ready0 c x wi0 wo0 ∗ ready1 c wi1 wo1 ∗ ready2 c wi2 wo2 ∗ owesE c (O₀ c))
      ⊢ iprop(((end2 P c wi2 wo2 ∗ (owns (c : Thread nD τ) wi1M fullShare wi1 ∗ owns (c : Thread nD τ) wo1M fullShare wo1)
            ∗ (owns (c : Thread nD τ) xM fullShare x ∗ owns (c : Thread nD τ) wi0M fullShare wi0 ∗ owns (c : Thread nD τ) wo0M fullShare wo0)
            ∗ atRound (barC c) 1) -∗ Q ⟨⟩)
        -∗ wpc c prog Q) := by
  rw [prog_eq]
  iintro H Hk
  simp only [wpc, Prog.lift, Prog.bind_op, Prog.bind_ret, wp_deviceId]
  iapply (layer0_spec P R c x wi0 wi1 wi2 wo0 wo1 wo2 hv0 hR0 hv1 hR1 hv2 Q) $$ H
  iexact Hk

end Cert.MlpProof

end
-- ==== Proof.Deal.lean ====
/-
# What the launch deals each device

The credits of what the other devices owe it, the cells it owns, and the tokens of the duties it pays.
-/
module

public import proofs.«01_k».proof.Proof.Layers

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Credits -/

/-- When every device owes `k` to the device at offset `j`, every device is owed `k`. -/
theorem cred_turn (c : Dev nD) (j : Fin 31) (sm : SemLoc sig) (u k : ℕ) :
    (Pipeline.launchCred (fun d => tallyAt ((nb d j : Thread nD τ), sm) u k) c : sProp 𝕄)
      ⊢ cred (tallyAt ((c : Thread nD τ), sm) u k) :=
  Pipeline.launchCred_tallyAt sm (fun d => nb d j) (fun d => nb d (rev j)) (fun d => nb_rev' d j) (fun d => nb_rev d j) u k c

theorem creds_rs (c : Dev nD) (r : ℕ) (l : List (Fin 31)) :
    (Pipeline.launchCred (fun d => owRs d r l) c : sProp 𝕄) ⊢ bigL l fun j => cred (tallyAt (rsRC c j) r N) := by
  induction l with
  | nil => exact Entails.of_eq (Pipeline.launchCred_zero c)
  | cons j l ih =>
    unfold owRs bigL
    rw [Pipeline.launchCred_add]
    iintro ⟨H, Hj⟩
    isplitl [Hj]
    · iapply (cred_turn c j (.dma (rsRm j)) r N); iexact Hj
    · iapply ih; iexact H

theorem creds_ag (c : Dev nD) (r : ℕ) (l : List (Fin 31)) :
    (Pipeline.launchCred (fun d => owAg d r l) c : sProp 𝕄) ⊢ bigL l fun j => cred (tallyAt (agRC c j) r N) := by
  induction l with
  | nil => exact Entails.of_eq (Pipeline.launchCred_zero c)
  | cons j l ih =>
    unfold owAg bigL
    rw [Pipeline.launchCred_add]
    iintro ⟨H, Hj⟩
    isplitl [Hj]
    · iapply (cred_turn c j (.dma (agRm j)) r N); iexact Hj
    · iapply ih; iexact H

theorem creds_bar (c : Dev nD) (l : List (Fin 31)) :
    (Pipeline.launchCred (fun d => owBar d l) c : sProp 𝕄) ⊢ cred (tallyAt (barC c) 0 l.length) := by
  induction l with
  | nil =>
    rw [List.length_nil, tallyAt_zero, cred_zero]
    exact Entails.of_eq (Pipeline.launchCred_zero c)
  | cons j l ih =>
    unfold owBar
    rw [Pipeline.launchCred_add, List.length_cons, ← tallyAt_add]
    refine BIBase.Entails.trans ?_ (cred_add _ _).2
    iintro ⟨H, Hj⟩
    isplitl [H]
    · iapply ih; iexact H
    · iapply (cred_turn c j (.reg barS) 0 1); iexact Hj

/-- All the credits of a device. -/
def credits (c : Dev nD) : sProp 𝕄 :=
  iprop(cred (tallyAt (barC c) 0 31) ∗ rsCred c 0 ∗ agCred c 0 ∗ rsCred c 1 ∗ agCred c 1 ∗ rsCred c 2)

theorem creds_intro (c : Dev nD) : (Pipeline.launchCred O₀ c : sProp 𝕄) ⊢ credits c := by
  unfold credits rsCred agCred
  rw [show (O₀ : Dev nD → CellTallies nD τ sig ℕ) = fun d => owBar d offs + owe1 d from rfl, Pipeline.launchCred_add,
    show (owe1 : Dev nD → CellTallies nD τ sig ℕ) = fun d => owRs d 0 offs + owe2 d from rfl, Pipeline.launchCred_add,
    show (owe2 : Dev nD → CellTallies nD τ sig ℕ) = fun d => owAg d 0 offs + owe3 d from rfl, Pipeline.launchCred_add,
    show (owe3 : Dev nD → CellTallies nD τ sig ℕ) = fun d => owRs d 1 offs + owe4 d from rfl, Pipeline.launchCred_add,
    show (owe4 : Dev nD → CellTallies nD τ sig ℕ) = fun d => owAg d 1 offs + owe5 d from rfl, Pipeline.launchCred_add,
    show (owe5 : Dev nD → CellTallies nD τ sig ℕ) = fun d => owRs d 2 offs from rfl]
  iintro ⟨Hb, H0, H1, H2, H3, H4⟩
  isplitl [Hb]; · iapply (creds_bar c offs); iexact Hb
  isplitl [H0]; · iapply (creds_rs c 0 offs); iexact H0
  isplitl [H1]; · iapply (creds_ag c 0 offs); iexact H1
  isplitl [H2]; · iapply (creds_rs c 1 offs); iexact H2
  isplitl [H3]; · iapply (creds_ag c 1 offs); iexact H3
  iapply (creds_rs c 2 offs); iexact H4

/-! ## The semaphores, one by one -/

/-- `Φ` at every entry of an array of 32 semaphores. -/
def fam (Φ : SemLoc sig → sProp 𝕄) (A : DmaSems sig S32) : sProp 𝕄 :=
  iprop(Φ (.dma (semAt A 0)) ∗ bigL offs fun j => Φ (.dma (semAt A j.succ)))

theorem pos_lt (x : Fin 4 × Fin 32) : 32 * x.1.val + x.2.val < 129 := by have := x.1.isLt; have := x.2.isLt; omega

/-- The place of entry `n` of array `a` among the 129. -/
def arrPos : Fin 4 × Fin 32 ↪ Fin 129 :=
  ⟨fun x => ⟨32 * x.1.val + x.2.val, pos_lt x⟩, fun x y h => by
    have h := congrArg Fin.val h
    have := x.2.isLt; have := y.2.isLt
    simp only at h
    exact Prod.ext (Fin.ext (by omega)) (Fin.ext (by omega))⟩

theorem osem_arr (n : Fin 32) :
    osem (arrPos (0, n)) = .dma (semAt cc0_scratch4 n) ∧ osem (arrPos (1, n)) = .dma (semAt cc0_scratch5 n)
      ∧ osem (arrPos (2, n)) = .dma (semAt cc0_scratch6 n) ∧ osem (arrPos (3, n)) = .dma (semAt cc0_scratch7 n) := by
  fin_cases n <;> exact ⟨rfl, rfl, rfl, rfl⟩

/-- One assertion per semaphore of the kernel's: the local copies' and the four arrays'. -/
theorem osem_split (Φ : SemLoc sig → sProp 𝕄) :
    (bigSep Finset.univ fun k : Fin 129 => Φ (osem k))
      = iprop(Φ (.dma locS) ∗ fam Φ cc0_scratch4 ∗ fam Φ cc0_scratch5 ∗ fam Φ cc0_scratch6 ∗ fam Φ cc0_scratch7) := by
  have h : (Finset.univ : Finset (Fin 129)) = insert ⟨128, by decide⟩ (Finset.univ.map arrPos) := by
    ext d
    simp only [Finset.mem_univ, Finset.mem_insert, Finset.mem_map, true_and, true_iff]
    have := d.isLt
    by_cases e : d.val = 128
    · exact .inl (Fin.ext e)
    · exact .inr ⟨(⟨d.val / 32, by omega⟩, ⟨d.val % 32, by omega⟩), Fin.ext (by show 32 * (d.val / 32) + d.val % 32 = d.val; omega)⟩
  have hn : (⟨128, by decide⟩ : Fin 129) ∉ (Finset.univ.map arrPos) := by
    rw [Finset.mem_map]; rintro ⟨x, -, e⟩
    have e : 32 * x.1.val + x.2.val = 128 := congrArg Fin.val e
    have := x.1.isLt; have := x.2.isLt; omega
  rw [h, bigSep_insert hn, bigSep_map, bigSep_univ_prod,
    bigSep_univ_eq_bigSepL [(0 : Fin 4), 1, 2, 3] (by decide) (by decide)]
  have f (a : Fin 4) (A : DmaSems sig S32) (hA : ∀ n, osem (arrPos (a, n)) = .dma (semAt A n)) :
      (bigSep Finset.univ fun n : Fin 32 => Φ (osem (arrPos (a, n)))) = fam Φ A := by
    rw [slot_split]; unfold fam; simp only [hA]
  have f0 := f 0 cc0_scratch4 fun n => (osem_arr n).1
  have f1 := f 1 cc0_scratch5 fun n => (osem_arr n).2.1
  have f2 := f 2 cc0_scratch6 fun n => (osem_arr n).2.2.1
  have f3 := f 3 cc0_scratch7 fun n => (osem_arr n).2.2.2
  rw [← f0, ← f1, ← f2, ← f3]
  rfl

/-- The cells of a device: the barrier's and the kernel's own. -/
abbrev csem : Option (Fin 129) → SemLoc sig
  | none => .reg barS
  | some k => osem k
abbrev acell (ck : Dev nD × Option (Fin 129)) : GSem nD τ sig := ((ck.1 : Thread nD τ), csem ck.2)

theorem opt_split (Φ : Option (Fin 129) → sProp 𝕄) :
    bigSep Finset.univ Φ = iprop(Φ none ∗ bigSep Finset.univ fun k : Fin 129 => Φ (some k)) := by
  have h : (Finset.univ : Finset (Option (Fin 129))) = insert none (Finset.univ.map ⟨some, Option.some_injective _⟩) := by
    ext d
    cases d <;> simp
  rw [h, bigSep_insert (by simp), bigSep_map]
  rfl

theorem osem_injective : Function.Injective osem := fun k k' h => by
  have h : (8 + k.val) = 8 + k'.val := congrArg (fun s : SemLoc sig => match s with | .dma n => n.val | .reg _ => 0) h
  exact Fin.ext (by omega)

theorem acell_injective : Function.Injective acell := by
  rintro ⟨c, k⟩ ⟨c', k'⟩ h
  have h1 : c = c' := congrArg (fun g : GSem nD τ sig => g.1.1) h
  have h2 : csem k = csem k' := congrArg Prod.snd h
  subst h1
  cases k with
  | none => cases k' with
    | none => rfl
    | some k' => cases h2
  | some k => cases k' with
    | none => cases h2
    | some k' => rw [osem_injective h2]

/-! ## Tokens -/

/-- The tokens of a device's own reduce-scatter cells, of its gather's, and of its barrier. -/
def rsOwn (c : Dev nD) (r : ℕ) : sProp 𝕄 :=
  bigL offs fun j => iprop(dutyTok ER (rsSC c j) r 0 ∗ dutyTok ER (rsRC c j) r 0)
def agOwn (c : Dev nD) (r : ℕ) : sProp 𝕄 :=
  bigL offs fun j => iprop(dutyTok ER (agSC c j) r 0 ∗ dutyTok ER (agRC c j) r 0)
def barOwn (c : Dev nD) : sProp 𝕄 := bigL offs fun j => dutyTok ER (barC c) 0 j
def locToks (c : Dev nD) : sProp 𝕄 :=
  iprop(dutyTok ER (locC c) 0 0 ∗ dutyTok ER (locC c) 1 0 ∗ dutyTok ER (locC c) 2 0 ∗ dutyTok ER (locC c) 3 0 ∗ dutyTok ER (locC c) 4 0)

/-- The tokens of a device's own cells, and those of the duties it pays. -/
def ownToks (c : Dev nD) : sProp 𝕄 :=
  iprop(locToks c ∗ barOwn c ∗ rsOwn c 0 ∗ rsOwn c 1 ∗ rsOwn c 2 ∗ agOwn c 0 ∗ agOwn c 1)
def payToks (c : Dev nD) : sProp 𝕄 :=
  iprop(locToks c ∗ barToks c ∗ rsToks c 0 ∗ rsToks c 1 ∗ rsToks c 2 ∗ agToks c 0 ∗ agToks c 1)

/-- One assertion per device and offset, counted at the owner or at the device that pays. -/
theorem turn_around (T : Dev nD → Fin 31 → sProp 𝕄) :
    (bigSep Finset.univ fun c : Dev nD => bigL offs (T c)) = bigSep Finset.univ fun c : Dev nD => bigL offs fun j => T (nb c j) j := by
  simp only [bigL_offs]
  rw [bigSep_univ_comm, bigSep_univ_comm (fun c j => T (nb c j) j)]
  exact bigSep_congr fun j _ => bigSep_univ_equiv (turn j) fun c => T c j

theorem toks_around : (bigSep Finset.univ fun c : Dev nD => (ownToks c : sProp 𝕄)) = bigSep Finset.univ fun c : Dev nD => payToks c := by
  have hr (r : ℕ) : (bigSep Finset.univ fun c : Dev nD => (rsOwn c r : sProp 𝕄)) = bigSep Finset.univ fun c : Dev nD => rsToks c r := by
    unfold rsOwn rsToks
    simp only [bigL_sep, bigSep_sep']
    rw [turn_around fun c j => dutyTok ER (rsRC c j) r 0]
  have ha (r : ℕ) : (bigSep Finset.univ fun c : Dev nD => (agOwn c r : sProp 𝕄)) = bigSep Finset.univ fun c : Dev nD => agToks c r := by
    unfold agOwn agToks
    simp only [bigL_sep, bigSep_sep']
    rw [turn_around fun c j => dutyTok ER (agRC c j) r 0]
  have hb : (bigSep Finset.univ fun c : Dev nD => (barOwn c : sProp 𝕄)) = bigSep Finset.univ fun c : Dev nD => barToks c := by
    unfold barOwn barToks
    rw [turn_around fun c j => dutyTok ER (barC c) 0 j]
  unfold ownToks payToks
  simp only [bigSep_sep', hr, ha, hb]

/-- All the tokens of a cell: five rounds of 31 duties. -/
def cellToks (g : GSem nD τ sig) : sProp 𝕄 := bigSep Finset.univ fun x : Fin 5 × Fin 31 => dutyTok ER g x.1.val x.2

theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem cellToks_rounds (g : GSem nD τ sig) :
    (cellToks g : sProp 𝕄) ⊢ iprop(dutyTok ER g 0 0 ∗ dutyTok ER g 1 0 ∗ dutyTok ER g 2 0 ∗ dutyTok ER g 3 0 ∗ dutyTok ER g 4 0) := by
  have h (r : Fin 5) : (bigSep Finset.univ fun d : Fin 31 => (dutyTok ER g r.val d : sProp 𝕄)) ⊢ dutyTok ER g r.val 0 :=
    bigSep_elim (Finset.mem_univ 0)
  unfold cellToks
  rw [bigSep_univ_prod]
  refine BIBase.Entails.trans (Entails.of_eq (fin5 fun r => bigSep Finset.univ fun d : Fin 31 => dutyTok ER g r.val d)) ?_
  iintro ⟨H0, H1, H2, H3, H4⟩
  isplitl [H0]; · iapply (h 0); iexact H0
  isplitl [H1]; · iapply (h 1); iexact H1
  isplitl [H2]; · iapply (h 2); iexact H2
  isplitl [H3]; · iapply (h 3); iexact H3
  iapply (h 4); iexact H4

theorem cellToks_duties (g : GSem nD τ sig) : (cellToks g : sProp 𝕄) ⊢ bigL offs fun j => dutyTok ER g 0 j := by
  have h : (bigSep Finset.univ fun r : Fin 5 => bigSep Finset.univ fun d : Fin 31 => (dutyTok ER g r.val d : sProp 𝕄))
      ⊢ bigSep Finset.univ fun d : Fin 31 => dutyTok ER g 0 d := bigSep_elim (i := (0 : Fin 5)) (Finset.mem_univ _)
  unfold cellToks
  rw [bigSep_univ_prod, bigL_offs]
  exact h

/-- Of an array's tokens, those of the rounds: three or two. -/
theorem fam_toks (c : Dev nD) (A : DmaSems sig S32) :
    fam (fun sm => (cellToks ((c : Thread nD τ), sm) : sProp 𝕄)) A
      ⊢ iprop((bigL offs fun j => dutyTok ER ((c : Thread nD τ), .dma (semAt A j.succ)) 0 0)
          ∗ (bigL offs fun j => dutyTok ER ((c : Thread nD τ), .dma (semAt A j.succ)) 1 0)
          ∗ bigL offs fun j => dutyTok ER ((c : Thread nD τ), .dma (semAt A j.succ)) 2 0) := by
  have h (j : Fin 31) : (cellToks ((c : Thread nD τ), .dma (semAt A j.succ)) : sProp 𝕄)
      ⊢ iprop(dutyTok ER ((c : Thread nD τ), .dma (semAt A j.succ)) 0 0 ∗ dutyTok ER ((c : Thread nD τ), .dma (semAt A j.succ)) 1 0
          ∗ dutyTok ER ((c : Thread nD τ), .dma (semAt A j.succ)) 2 0) := by
    iintro H
    ihave H' := (cellToks_rounds _) $$ H
    icases H' with ⟨H0, H1, H2, -⟩
    isplitl [H0]; · iexact H0
    isplitl [H1]; · iexact H1
    iexact H2
  unfold fam
  iintro ⟨-, H⟩
  ihave H' := (bigL_mono h) $$ H
  simp only [bigL_sep]
  iexact H'

theorem ownToks_intro (c : Dev nD) :
    (bigSep Finset.univ fun k : Option (Fin 129) => (cellToks (acell (c, k)) : sProp 𝕄)) ⊢ ownToks c := by
  rw [opt_split, osem_split fun sm => (cellToks ((c : Thread nD τ), sm) : sProp 𝕄)]
  unfold ownToks locToks barOwn rsOwn agOwn
  simp only [bigL_sep]
  iintro ⟨Hb, Hl, H4, H5, H6, H7⟩
  ihave Hb := (cellToks_duties (barC c)) $$ Hb
  ihave Hl := (cellToks_rounds (locC c)) $$ Hl
  ihave H4 := (fam_toks c cc0_scratch4) $$ H4
  ihave H5 := (fam_toks c cc0_scratch5) $$ H5
  ihave H6 := (fam_toks c cc0_scratch6) $$ H6
  ihave H7 := (fam_toks c cc0_scratch7) $$ H7
  icases H4 with ⟨S0, S1, S2⟩
  icases H5 with ⟨R0, R1, R2⟩
  icases H6 with ⟨A0, A1, -⟩
  icases H7 with ⟨B0, B1, -⟩
  isplitl [Hl]; · iexact Hl
  isplitl [Hb]; · iexact Hb
  isplitl [S0 R0]
  · isplitl [S0]; · iexact S0
    iexact R0
  isplitl [S1 R1]
  · isplitl [S1]; · iexact S1
    iexact R1
  isplitl [S2 R2]
  · isplitl [S2]; · iexact S2
    iexact R2
  isplitl [A0 B0]
  · isplitl [A0]; · iexact A0
    iexact B0
  isplitl [A1]; · iexact A1
  iexact B1

/-! ## Cells -/

/-- The unused entries of the four arrays. -/
def idle (c : Dev nD) : sProp 𝕄 :=
  iprop(atRound ((c : Thread nD τ), .dma (semAt cc0_scratch4 0)) 0 ∗ atRound ((c : Thread nD τ), .dma (semAt cc0_scratch5 0)) 0
    ∗ atRound ((c : Thread nD τ), .dma (semAt cc0_scratch6 0)) 0 ∗ atRound ((c : Thread nD τ), .dma (semAt cc0_scratch7 0)) 0)

theorem cellsStart_intro (c : Dev nD) :
    (bigSep Finset.univ fun k : Option (Fin 129) => (atRound (acell (c, k)) 0 : sProp 𝕄)) ⊢ iprop(cellsStart c ∗ idle c) := by
  rw [opt_split, osem_split fun sm => (atRound ((c : Thread nD τ), sm) 0 : sProp 𝕄)]
  unfold cellsStart idle fam rsSAt rsRAt agSAt agRAt
  iintro ⟨Hb, Hl, ⟨I4, H4⟩, ⟨I5, H5⟩, ⟨I6, H6⟩, I7, H7⟩
  isplitl [Hb Hl H4 H5 H6 H7]
  · isplitl [Hb]; · iexact Hb
    isplitl [H4]; · iexact H4
    isplitl [H5]; · iexact H5
    isplitl [H6]; · iexact H6
    isplitl [H7]; · iexact H7
    iexact Hl
  isplitl [I4]; · iexact I4
  isplitl [I5]; · iexact I5
  isplitl [I6]; · iexact I6
  iexact I7

end Cert.MlpProof

end
-- ==== Proof.Fund.lean ====
/-
# The protocol set up and wound up

At the launch every semaphore at zero becomes a cell of the protocol, known to all; at the end every cell, all of its
rounds over, is a semaphore at zero again.
-/
module

public import proofs.«01_k».proof.Proof.Deal

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : ℕ → Dev nD → Full F) (R : ℕ → Dev nD → Rows F)

/-! ## Setting up -/

def theCells : Finset (GSem nD τ sig) := Finset.univ.map ⟨acell, acell_injective⟩

theorem tok_injective : Function.Injective
    (fun x : (Dev nD × Option (Fin 129)) × (Fin 5 × Fin 31) => (acell x.1, x.2.1.val, x.2.2)) := by
  rintro ⟨a, r, d⟩ ⟨a', r', d'⟩ h
  have h1 : a = a' := acell_injective (congrArg Prod.fst h)
  have h2 : r = r' := Fin.ext (congrArg (fun y : GSem nD τ sig × ℕ × Fin 31 => y.2.1) h)
  have h3 : d = d' := congrArg (fun y : GSem nD τ sig × ℕ × Fin 31 => y.2.2) h
  rw [h1, h2, h3]

def theToks : Finset (GSem nD τ sig × ℕ × Fin 31) := Finset.univ.map ⟨_, tok_injective⟩

/-- The launch's ghost element: the pipeline's and this protocol's. -/
def u₀ : UU := (initOf (Pipeline.cells cfgs cellOf_inj) (Pipeline.launchToks cfgs cellOf_inj), initOf theCells theToks)

/-- What the ghost element gives device `c`. -/
def G (c : Dev nD) : sProp 𝕄 :=
  iprop((bigSep Finset.univ fun k : Option (Fin 129) => roundState ER (Rd P R) (acell (c, k)) 0)
    ∗ (bigSep Finset.univ fun k : Option (Fin 129) => atRound (acell (c, k)) 0)
    ∗ bigSep Finset.univ fun k : Option (Fin 129) => cellToks (acell (c, k)))

theorem fund_all : BI.own (ER (initOf theCells theToks)) ⊢ (|==> bigSep Finset.univ (G P R) : sProp 𝕄) := by
  have hX (Φ : GSem nD τ sig → sProp 𝕄) :
      bigSep theCells Φ = bigSep Finset.univ fun c : Dev nD => bigSep Finset.univ fun k : Option (Fin 129) => Φ (acell (c, k)) := by
    unfold theCells; rw [bigSep_map, bigSep_univ_prod]; rfl
  have hT : bigSep theToks (fun x => (dutyTok ER x.1 x.2.1 x.2.2 : sProp 𝕄))
      = bigSep Finset.univ fun c : Dev nD => bigSep Finset.univ fun k : Option (Fin 129) => cellToks (acell (c, k)) := by
    unfold theToks cellToks; rw [bigSep_map, bigSep_univ_prod, bigSep_univ_prod]; rfl
  iintro HX
  imod (Rounds.fund ER (Rd P R) theCells theToks) $$ HX with ⟨Hst, Hr, Hat, Htok⟩
  imodintro
  ihave Hst' := (Entails.of_eq (hX fun g => roundState ER (Rd P R) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (barC c) 0 := by
  unfold unscopedSems0; rw [bigSep_eq_bigSepL_of_eq [SemLoc.reg barS] (by decide) (by decide)]; rfl

/-- One cell. -/
theorem cell_alloc (g : GSem nD τ sig) :
    iprop(semVal g 0 ∗ roundState ER (Rd P R) g 0 ∗ atRound g 0) ⊢ |={Set.univ}=> (iprop(known P R g ∗ atRound g 0) : sProp 𝕄) := by
  unfold known
  iintro ⟨Hv, Hs, Ha, #Hr⟩
  imod ((Rounds.body_intro ER (Rd P R) g).trans inv_alloc) $$ [Hv Hs] with HI
  · isplitl [Hv] <;> iassumption
  imodintro
  isplitl [HI]
  · isplitl [HI]; · iexact HI
    iexact Hr
  isplitl [Ha]; · iexact Ha
  iexact Hr

/-- Every cell is under the protocol. -/
def Known : sProp 𝕄 :=
  iprop((bigSep Finset.univ fun ck : Dev nD × Fin 129 => known P R (kcell ck)) ∗ bigSep Finset.univ fun c : Dev nD => known P R (barC c))

instance Known_persistent : BI.Persistent (Known P R) := by unfold Known; infer_instance

/-- What is device `c`'s alone. -/
def mine (c : Dev nD) : sProp 𝕄 := iprop((cellsStart c ∗ idle c) ∗ payToks c)

/-- What the set-up gives device `c`. -/
def G' (c : Dev nD) : sProp 𝕄 := iprop(Known P R ∗ mine c)

theorem core_alloc (c : Dev nD) :
    iprop(Pipeline.ownSems0 (Ix := ℕ) (Name := ℕ) (U := UU) (Lvl := ℕ) (Val := Elt F) (τ := τ) osem c ∗ unscopedSems0 c ∗ G P R c)
      ⊢ |={Set.univ}=> (iprop((bigSep Finset.univ fun k : Option (Fin 129) => known P R (acell (c, k))) ∗ (cellsStart c ∗ idle c) ∗ ownToks c) : sProp 𝕄) := by
  have hv : (bigSep Finset.univ fun k : Option (Fin 129) => (semVal (acell (c, k)) 0 : sProp 𝕄))
      = iprop(semVal (barC c) 0 ∗ Pipeline.ownSems0 (Ix := ℕ) (Name := ℕ) (U := UU) (Lvl := ℕ) (Val := Elt F) (τ := τ) osem c) := opt_split _
  have ha (k : Option (Fin 129)) := cell_alloc P R (acell (c, k))
  have hall : iprop((bigSep Finset.univ fun k : Option (Fin 129) => (semVal (acell (c, k)) 0 : sProp 𝕄))
        ∗ (bigSep Finset.univ fun k : Option (Fin 129) => roundState ER (Rd P R) (acell (c, k)) 0)
        ∗ bigSep Finset.univ fun k : Option (Fin 129) => atRound (acell (c, k)) 0)
      ⊢ |={Set.univ}=> (iprop((bigSep Finset.univ fun k : Option (Fin 129) => known P R (acell (c, k)))
        ∗ bigSep Finset.univ fun k : Option (Fin 129) => atRound (acell (c, k)) 0) : sProp 𝕄) := by
    rw [← bigSep_sep', ← bigSep_sep', ← bigSep_sep']
    exact (bigSep_mono fun k _ => ha k).trans (bigSep_fupd _ _)
  unfold G
  rw [unscopedSems0_eq]
  iintro ⟨Hos, Hb, Hst, Hat, Htok⟩
  imod hall $$ [Hos Hb Hst Hat] with ⟨HK, Hat⟩
  · rw [hv]
    isplitl [Hb Hos]
    · isplitl [Hb] <;> iassumption
    isplitl [Hst] <;> iassumption
  imodintro
  isplitl [HK]; · iexact HK
  isplitl [Hat]; · iapply (cellsStart_intro c); iexact Hat
  iapply (ownToks_intro c); iexact Htok

theorem regroup :
    (bigSep Finset.univ fun c : Dev nD =>
        (iprop((bigSep Finset.univ fun k : Option (Fin 129) => known P R (acell (c, k))) ∗ (cellsStart c ∗ idle c) ∗ ownToks c) : sProp 𝕄))
      ⊢ bigSep Finset.univ (G' P R) := by
  have hK : (bigSep Finset.univ fun c : Dev nD => bigSep Finset.univ fun k : Option (Fin 129) => known P R (acell (c, k))) ⊢ Known P R := by
    have e (c : Dev nD) := opt_split fun k => known P R (acell (c, k))
    unfold Known
    simp only [e]
    rw [bigSep_sep', ← bigSep_univ_prod (fun ck : Dev nD × Fin 129 => known P R (acell (ck.1, some ck.2)))]
    iintro ⟨Hb, Hk⟩
    isplitl [Hk]; · iexact Hk
    iexact Hb
  have hm : iprop((bigSep Finset.univ fun c : Dev nD => iprop(cellsStart c ∗ idle c)) ∗ bigSep Finset.univ fun c : Dev nD => ownToks c)
      = bigSep Finset.univ fun c : Dev nD => (mine c : sProp 𝕄) := by
    rw [toks_around, ← bigSep_sep']
    rfl
  have hw (c : Dev nD) : iprop(Known P R ∗ mine c) ⊢ G' P R c := by unfold G'; exact .rfl
  rw [bigSep_sep', bigSep_sep', hm]
  iintro ⟨HK, Hm⟩
  ihave HK' := hK $$ HK
  iapply (bigSep_with_persistent (R := Known P R) fun c _ => hw c)
  isplitl [HK']; · iexact HK'
  iexact Hm

/-- The set-up of all devices together. -/
theorem glob :
    (bigSep Finset.univ fun c => (iprop(Pipeline.ownSems0 (Ix := ℕ) (Name := ℕ) (U := UU) (Lvl := ℕ) (Val := Elt F) (τ := τ) osem c
        ∗ unscopedSems0 c ∗ G P R c) : sProp 𝕄))
      ⊢ |={Set.univ}=> bigSep Finset.univ (G' P R) := by
  have h (c : Dev nD) := core_alloc P R c
  exact ((bigSep_mono fun c _ => h c).trans (bigSep_fupd _ _)).trans (BI.fupd_mono (regroup P R))

/-! ## Winding up -/

theorem own_idle (A : DmaSems sig S32) (k : Fin 129) (h : osem k = .dma (semAt A 0)) : IsOwn (.dma (semAt A 0)) := .inl ⟨k, h⟩

/-- A cell whose rounds are over is a semaphore at zero. -/
theorem cell_back {sm : SemLoc sig} (h : IsOwn sm) {k : Kind} (hk : kindOf sm = k) (c : Dev nD) {r : ℕ} (hr : nRounds k ≤ r) :
    iprop(Ctx P R ∗ atRound ((c : Thread nD τ), sm) r) ⊢ |={Set.univ}=> (semVal ((c : Thread nD τ), sm) 0 : sProp 𝕄) := by
  iintro ⟨#HC, Ha, -⟩
  ihave Hk := (ctx_known P R h c) $$ HC
  unfold known
  icases Hk with ⟨⟨%κ, HI⟩, -⟩
  iapply (Rounds.cell_close ER (Rd P R) (Set.mem_univ κ) (fun h => h) (R := r)
    (fun r' h' => duties_done P R hk c r' (le_trans hr h')))
  isplitl [HI]; · iexact HI
  iexact Ha

/-- An array of semaphores. -/
theorem fam_back (c : Dev nD) (A : DmaSems sig S32) (ho : ∀ n, IsOwn (.dma (semAt A n))) (h0 : kindOf (.dma (semAt A 0)) = .other)
    (kd : Fin 31 → Kind) (hk : ∀ j, kindOf (.dma (semAt A j.succ)) = kd j) (r : ℕ) (hr : ∀ j, nRounds (kd j) ≤ r) :
    iprop(Ctx P R ∗ atRound ((c : Thread nD τ), .dma (semAt A 0)) 0 ∗ bigL offs fun j => atRound ((c : Thread nD τ), .dma (semAt A j.succ)) r)
      ⊢ |={Set.univ}=> (fam (fun sm => semVal ((c : Thread nD τ), sm) 0) A : sProp 𝕄) := by
  have h (j : Fin 31) := cell_back P R (ho j.succ) (hk j) c (hr j)
  have hf : (bigL offs fun j => iprop(|={Set.univ}=> semVal ((c : Thread nD τ), .dma (semAt A j.succ)) 0))
      ⊢ |={Set.univ}=> (bigL offs fun j => semVal ((c : Thread nD τ), .dma (semAt A j.succ)) 0 : sProp 𝕄) := by
    rw [bigL_offs, bigL_offs]; exact bigSep_fupd _ _
  unfold fam
  iintro ⟨#HC, H0, H⟩
  imod (cell_back P R (ho 0) h0 c (Nat.le_refl 0)) $$ [H0] with V0
  · isplitr; · iexact HC
    iexact H0
  imod ((bigL_with (G := Ctx P R) h).trans hf) $$ [H] with V
  · isplitr; · iexact HC
    iexact H
  imodintro
  isplitl [V0]; · iexact V0
  iexact V

theorem own_arr (n : Fin 32) :
    IsOwn (.dma (semAt cc0_scratch4 n)) ∧ IsOwn (.dma (semAt cc0_scratch5 n)) ∧ IsOwn (.dma (semAt cc0_scratch6 n)) ∧ IsOwn (.dma (semAt cc0_scratch7 n)) := by
  obtain ⟨h4, h5, h6, h7⟩ := osem_arr n
  exact ⟨.inl ⟨_, h4⟩, .inl ⟨_, h5⟩, .inl ⟨_, h6⟩, .inl ⟨_, h7⟩⟩

/-- All the semaphores of a device at zero again. -/
theorem cells_back (c : Dev nD) :
    iprop(Ctx P R ∗ cellsEnd c ∗ idle c ∗ atRound (barC c) 1)
      ⊢ |={Set.univ}=> (iprop(unscopedSems0 c
          ∗ Pipeline.ownSems0 (Ix := ℕ) (Name := ℕ) (U := UU) (Lvl := ℕ) (Val := Elt F) (τ := τ) osem c) : sProp 𝕄) := by
  have ho : (Pipeline.ownSems0 (Ix := ℕ) (Name := ℕ) (U := UU) (Lvl := ℕ) (Val := Elt F) (τ := τ) osem c : sProp 𝕄) = _ :=
    osem_split fun sm => (semVal ((c : Thread nD τ), sm) 0 : sProp 𝕄)
  rw [unscopedSems0_eq, ho]
  unfold cellsEnd idle rsSAt rsRAt agSAt agRAt
  iintro ⟨#HC, ⟨H4, H5, H6, H7, Hl⟩, ⟨I4, I5, I6, I7⟩, Hb⟩
  imod (cell_back P R own_bar kind_bar c (Nat.le_refl 1)) $$ [Hb] with Vb
  · isplitr; · iexact HC
    iexact Hb
  imod (cell_back P R own_loc kind_loc c (Nat.le_refl 5)) $$ [Hl] with Vl
  · isplitr; · iexact HC
    iexact Hl
  imod (fam_back P R c cc0_scratch4 (fun n => (own_arr n).1) rfl _ kind_rsS 3 (fun _ => Nat.le_refl 3)) $$ [I4 H4] with V4
  · isplitr; · iexact HC
    isplitl [I4]; · iexact I4
    iexact H4
  imod (fam_back P R c cc0_scratch5 (fun n => (own_arr n).2.1) rfl _ kind_rsR 3 (fun _ => Nat.le_refl 3)) $$ [I5 H5] with V5
  · isplitr; · iexact HC
    isplitl [I5]; · iexact I5
    iexact H5
  imod (fam_back P R c cc0_scratch6 (fun n => (own_arr n).2.2.1) rfl _ kind_agS 2 (fun _ => Nat.le_refl 2)) $$ [I6 H6] with V6
  · isplitr; · iexact HC
    isplitl [I6]; · iexact I6
    iexact H6
  imod (fam_back P R c cc0_scratch7 (fun n => (own_arr n).2.2.2) rfl _ kind_agR 2 (fun _ => Nat.le_refl 2)) $$ [I7 H7] with V7
  · isplitr; · iexact HC
    isplitl [I7]; · iexact I7
    iexact H7
  imodintro
  isplitl [Vb]; · iexact Vb
  isplitl [Vl]; · iexact Vl
  isplitl [V4]; · iexact V4
  isplitl [V5]; · iexact V5
  isplitl [V6]; · iexact V6
  iexact V7

end Cert.MlpProof

end
-- ==== Proof.Body.lean ====
/-
# The values, and the body in the launch's form

What the devices compute, as functions of their launch memory, and the pipeline's obligation on the body.
-/
module

public import proofs.«01_k».proof.Proof.Fund

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The values -/

/-- Device `c`'s arguments: the input, and each layer's two weights. -/
def xV (c : Dev nD) : Vec F S64x1024 .f32 := (win0_0.blk (0 : Fin 1)).view.read (Elt F) (m ((c : Thread nD τ).loc main_arg0))
def wi0V (c : Dev nD) : Vec F S1024x2048 .f32 := (win0_1.blk (0 : Fin 1)).view.read (Elt F) (m ((c : Thread nD τ).loc main_arg1))
def wo0V (c : Dev nD) : Vec F S2048x1024 .f32 := (win0_2.blk (0 : Fin 1)).view.read (Elt F) (m ((c : Thread nD τ).loc main_arg4))
def wi1V (c : Dev nD) : Vec F S1024x2048 .f32 := (win0_3.blk (0 : Fin 1)).view.read (Elt F) (m ((c : Thread nD τ).loc main_arg2))
def wo1V (c : Dev nD) : Vec F S2048x1024 .f32 := (win0_4.blk (0 : Fin 1)).view.read (Elt F) (m ((c : Thread nD τ).loc main_arg5))
def wi2V (c : Dev nD) : Vec F S1024x2048 .f32 := (win0_5.blk (0 : Fin 1)).view.read (Elt F) (m ((c : Thread nD τ).loc main_arg3))
def wo2V (c : Dev nD) : Vec F S2048x1024 .f32 := (win0_6.blk (0 : Fin 1)).view.read (Elt F) (m ((c : Thread nD τ).loc main_arg6))

/-- The weights of the layer after layer `r`. -/
def wiV : ℕ → Dev nD → Vec F S1024x2048 .f32
  | 0 => wi1V m
  | _ + 1 => wi2V m
def woV : ℕ → Dev nD → Vec F S2048x1024 .f32
  | 0 => wo1V m
  | _ + 1 => wo2V m

/-- The sum device `c` forms of all devices' partial products `p`: its own block `c` first, then the others' in the
    order of the offsets. -/
def accF (p : Dev nD → Full F) (c : Dev nD) : FVec F S2x1024 .f32 := accS (fun _ => p) 0 c

/-- Device `c`'s partial product in layer `r`. -/
def Pv : ℕ → Dev nD → Full F
  | 0 => fun c => k0_pay1 (xV m c) (wi0V m c) (wo0V m c)
  | r + 1 => fun c => partOf (xOf fun d => redVal (accF (Pv r) d)) (wiV m r c) (woV m r c)

/-- Device `c`'s two reduced rows of layer `r`. -/
def Rv (r : ℕ) (c : Dev nD) : Rows F := redVal (accF (Pv m r) c)

/-- Device `c`'s result. -/
def outV (c : Dev nD) : FVec F S2x1024 .f32 := accF (Pv m 2) c

/-! ## The proof data of the launch -/

abbrev s₀ : MemSt nD τ sig (Elt F) := ⟨m, fun _ => 0, ρ⟩

/-- What device `c`'s body starts from, besides its buffers. -/
def start (c : Dev nD) : sProp 𝕄 := iprop(G' (Pv m) (Rv m) c ∗ credits c ∗ Lev)

def Φ₀ (c : Dev nD) : sProp 𝕄 := iprop(start m c ∗ scratch c)
def Φ₁ (c : Dev nD) : sProp 𝕄 :=
  iprop((unscopedSems0 c ∗ Pipeline.ownSems0 (Ix := ℕ) (Name := ℕ) (U := UU) (Lvl := ℕ) (Val := Elt F) (τ := τ) osem c) ∗ scratch c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xV m c
    | ⟨1, _⟩ => wi0V m c
    | ⟨2, _⟩ => wo0V m c
    | ⟨3, _⟩ => wi1V m c
    | ⟨4, _⟩ => wo1V m c
    | ⟨5, _⟩ => wi2V m c
    | ⟨6, _⟩ => wo2V m c
    | ⟨7, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

theorem ctx_intro (P : ℕ → Dev nD → Full F) (R : ℕ → Dev nD → Rows F) : iprop(Known P R ∗ Lev) ⊢ (Ctx P R : sProp 𝕄) := by
  unfold Known Ctx
  iintro ⟨⟨#H1, #H2⟩, #H3⟩
  isplitr; · iexact H1
  isplitr; · iexact H2
  iexact H3

/-- The body from the protocol's set-up to its end, every semaphore at zero again. -/
theorem body_run (c : Dev nD) (x : Vec F S64x1024 .f32) (wi0 wi1 wi2 : Vec F S1024x2048 .f32) (wo0 wo1 wo2 : Vec F S2048x1024 .f32)
    (P : ℕ → Dev nD → Full F) (R : ℕ → Dev nD → Rows F)
    (hv0 : k0_pay1 x wi0 wo0 = P 0 c) (hR0 : redVal (accS P 0 c) = R 0 c)
    (hv1 : partOf (xOf (R 0)) wi1 wo1 = P 1 c) (hR1 : redVal (accS P 1 c) = R 1 c)
    (hv2 : partOf (xOf (R 1)) wi2 wo2 = P 2 c) (Q : PUnit.{1} → sProp 𝕄) :
    iprop(((G' P R c ∗ credits c ∗ Lev) ∗ scratch c) ∗ owesE c (O₀ c)
        ∗ owns (c : Thread nD τ) xM fullShare x ∗ owns (c : Thread nD τ) wi0M fullShare wi0 ∗ owns (c : Thread nD τ) wo0M fullShare wo0
        ∗ owns (c : Thread nD τ) wi1M fullShare wi1 ∗ owns (c : Thread nD τ) wo1M fullShare wo1
        ∗ owns (c : Thread nD τ) wi2M fullShare wi2 ∗ owns (c : Thread nD τ) wo2M fullShare wo2 ∗ someM c outM)
      ⊢ iprop((((((unscopedSems0 c ∗ Pipeline.ownSems0 (Ix := ℕ) (Name := ℕ) (U := UU) (Lvl := ℕ) (Val := Elt F) (τ := τ) osem c) ∗ scratch c) ∗ owesE c 0
        ∗ owns (c : Thread nD τ) xM fullShare x ∗ owns (c : Thread nD τ) wi0M fullShare wi0 ∗ owns (c : Thread nD τ) wo0M fullShare wo0
        ∗ owns (c : Thread nD τ) wi1M fullShare wi1 ∗ owns (c : Thread nD τ) wo1M fullShare wo1
        ∗ owns (c : Thread nD τ) wi2M fullShare wi2 ∗ owns (c : Thread nD τ) wo2M fullShare wo2
        ∗ owns (c : Thread nD τ) outM fullShare (accS P 2 c))) -∗ Q ⟨⟩)
        -∗ wpc c prog Q) := by
  unfold G' mine payToks locToks credits
  iintro ⟨⟨⟨⟨HK, ⟨Hcs, Hid⟩, ⟨T0, T1, T2, T3, T4⟩, HtB, Hr0, Hr1, Hr2, Ha0, Ha1⟩, ⟨Cb, C0, D0, C1, D1, C2⟩, HL⟩, Hscr⟩, HO, Hx, Hwi0, Hwo0, Hwi1, Hwo1, Hwi2, Hwo2, Hout⟩ Hk
  ihave HC := (ctx_intro P R) $$ [HK HL]
  · isplitl [HK] <;> iassumption
  icases HC with #HC
  have hf (e : Code F PUnit) : wpc c e (fun a => iprop(|={Set.univ}=> Q a)) ⊢ wpc c e Q := wp_fupd _ _ _ _ _
  iapply (hf prog)
  iapply (prog_spec P R c x wi0 wi1 wi2 wo0 wo1 wo2 hv0 hR0 hv1 hR1 hv2 (fun a => iprop(|={Set.univ}=> Q a)))
    $$ [Hcs T0 T1 T2 T3 T4 HtB Hr0 Hr1 Hr2 Ha0 Ha1 Cb C0 D0 C1 D1 C2 Hscr HO Hx Hwi0 Hwo0 Hwi1 Hwo1 Hwi2 Hwo2 Hout]
  · isplitr; · iexact HC
    isplitl [Hscr]; · iexact Hscr
    isplitl [Hcs]; · iexact Hcs
    isplitl [Hx Hwi0 Hwo0 T0 T1 HtB Hr0 Ha0 C0 D0 Cb]
    · unfold ready0
      isplitl [Hx Hwi0 Hwo0]
      · isplitl [Hx]; · iexact Hx
        isplitl [Hwi0]; · iexact Hwi0
        iexact Hwo0
      isplitl [T0 T1]
      · isplitl [T0]; · iexact T0
        iexact T1
      isplitl [HtB]; · iexact HtB
      isplitl [Hr0]; · iexact Hr0
      isplitl [Ha0]; · iexact Ha0
      isplitl [C0]; · iexact C0
      isplitl [D0]; · iexact D0
      iexact Cb
    isplitl [Hwi1 Hwo1 T2 T3 Hr1 Ha1 C1 D1]
    · unfold ready1
      isplitl [Hwi1 Hwo1]
      · isplitl [Hwi1]; · iexact Hwi1
        iexact Hwo1
      isplitl [T2 T3]
      · isplitl [T2]; · iexact T2
        iexact T3
      isplitl [Hr1]; · iexact Hr1
      isplitl [Ha1]; · iexact Ha1
      isplitl [C1]; · iexact C1
      iexact D1
    isplitl [Hwi2 Hwo2 Hout T4 Hr2 C2]
    · unfold ready2
      isplitl [Hwi2 Hwo2]
      · isplitl [Hwi2]; · iexact Hwi2
        iexact Hwo2
      isplitl [Hout]; · iexact Hout
      isplitl [T4]; · iexact T4
      isplitl [Hr2]; · iexact Hr2
      iexact C2
    iexact HO
  unfold end2
  iintro ⟨⟨Hce, Hscr, ⟨Hwi2, Hwo2⟩, Hout, HO⟩, ⟨Hwi1, Hwo1⟩, ⟨Hx, Hwi0, Hwo0⟩, Hb⟩
  imod (cells_back P R c) $$ [Hce Hid Hb] with HS
  · isplitr; · iexact HC
    isplitl [Hce]; · iexact Hce
    isplitl [Hid]; · iexact Hid
    iexact Hb
  imodintro
  iapply Hk
  isplitl [HS Hscr]
  · isplitl [HS]; · iexact HS
    iexact Hscr
  isplitl [HO]; · iexact HO
  isplitl [Hx]; · iexact Hx
  isplitl [Hwi0]; · iexact Hwi0
  isplitl [Hwo0]; · iexact Hwo0
  isplitl [Hwi1]; · iexact Hwi1
  isplitl [Hwo1]; · iexact Hwo1
  isplitl [Hwi2]; · iexact Hwi2
  isplitl [Hwo2]; · iexact Hwo2
  iexact Hout

end Cert.MlpProof

end
-- ==== Proof.Launch.lean ====
/-
# The launch and the run

The 32 kernels from any launch memory with zero counters: every fair execution ends, with each device's result at the
computed values, its arguments as they were and every semaphore at zero.
-/
module

public import proofs.«01_k».proof.Proof.Body
public import Idealize.ShloMosaic.Lib.Pipeline.CollectiveSegs

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

theorem scratch_intro (c : Dev nD) : (Pipeline.scopedRest (Ix := ℕ) (Name := ℕ) (U := UU) (Lvl := ℕ) (Val := Elt F) cfg0.spec c : sProp 𝕄) ⊢ scratch c := by
  rw [scopedRest0_eq]
  unfold scratch someM slotsOwn
  simp only [any_of_pts c cc0_scratch0, any_of_pts c cc0_scratch2, any_of_pts c cc0_scratch3]
  iintro ⟨H0, H1, H2, H3⟩
  isplitl [H0]; · iexact H0
  isplitl [H1]; · iapply (slots_split c); iexact H1
  isplitl [H2]; · iexact H2
  iexact H3

theorem scratch_exit (c : Dev nD) : scratch c ⊢ (Pipeline.scopedRest (Ix := ℕ) (Name := ℕ) (U := UU) (Lvl := ℕ) (Val := Elt F) cfg0.spec c : sProp 𝕄) := by
  rw [scopedRest0_eq]
  unfold scratch someM slotsOwn
  simp only [any_of_pts c cc0_scratch0, any_of_pts c cc0_scratch2, any_of_pts c cc0_scratch3]
  iintro ⟨H0, H1, H2, H3⟩
  isplitl [H0]; · iexact H0
  isplitl [H1]; · iapply (slots_join c); iexact H1
  isplitl [H2]; · iexact H2
  iexact H3

/-! ## The body's obligation -/

theorem bigSep_W (Φ : Fin cfg0.W → sProp 𝕄) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_W0 Φ

def bodyPre (c : Dev nD) : sProp 𝕄 :=
  iprop(Φ₀ m c ∗ (dats m ρ 0 c).owesAt (0 : ℕ) t0_0.castSucc
    ∗ (∃ d, owns (c : Thread nD τ) xM fullShare ((dats m ρ 0 c).before (0 : Fin 8) t0_0 d))
    ∗ (∃ d, owns (c : Thread nD τ) wi0M fullShare ((dats m ρ 0 c).before (1 : Fin 8) t0_0 d))
    ∗ (∃ d, owns (c : Thread nD τ) wo0M fullShare ((dats m ρ 0 c).before (2 : Fin 8) t0_0 d))
    ∗ (∃ d, owns (c : Thread nD τ) wi1M fullShare ((dats m ρ 0 c).before (3 : Fin 8) t0_0 d))
    ∗ (∃ d, owns (c : Thread nD τ) wo1M fullShare ((dats m ρ 0 c).before (4 : Fin 8) t0_0 d))
    ∗ (∃ d, owns (c : Thread nD τ) wi2M fullShare ((dats m ρ 0 c).before (5 : Fin 8) t0_0 d))
    ∗ (∃ d, owns (c : Thread nD τ) wo2M fullShare ((dats m ρ 0 c).before (6 : Fin 8) t0_0 d))
    ∗ (∃ d, owns (c : Thread nD τ) outM fullShare ((dats m ρ 0 c).before (7 : Fin 8) t0_0 d)))

def bodyPost (c : Dev nD) : sProp 𝕄 :=
  iprop(Φ₁ c ∗ (dats m ρ 0 c).owesAt (0 : ℕ) t0_0.succ
    ∗ owns (c : Thread nD τ) xM fullShare (xV m c)
    ∗ owns (c : Thread nD τ) wi0M fullShare (wi0V m c)
    ∗ owns (c : Thread nD τ) wo0M fullShare (wo0V m c)
    ∗ owns (c : Thread nD τ) wi1M fullShare (wi1V m c)
    ∗ owns (c : Thread nD τ) wo1M fullShare (wo1V m c)
    ∗ owns (c : Thread nD τ) wi2M fullShare (wi2V m c)
    ∗ owns (c : Thread nD τ) wo2M fullShare (wo2V m c)
    ∗ owns (c : Thread nD τ) outM fullShare (outV m c))

theorem sound_body (c : Dev nD) : bodyPre m ρ c ⊢ wpc c prog (fun _ => bodyPost m ρ c) := by
  unfold bodyPre Φ₀ start
  have b0 (d) : (dats m ρ 0 c).before (0 : Fin 8) t0_0 d = xV m c := by unfold Dat.before; rw [if_pos (fetch0_0 t0_0)]; rfl
  have b1 (d) : (dats m ρ 0 c).before (1 : Fin 8) t0_0 d = wi0V m c := by unfold Dat.before; rw [if_pos (fetch0_1 t0_0)]; rfl
  have b2 (d) : (dats m ρ 0 c).before (2 : Fin 8) t0_0 d = wo0V m c := by unfold Dat.before; rw [if_pos (fetch0_2 t0_0)]; rfl
  have b3 (d) : (dats m ρ 0 c).before (3 : Fin 8) t0_0 d = wi1V m c := by unfold Dat.before; rw [if_pos (fetch0_3 t0_0)]; rfl
  have b4 (d) : (dats m ρ 0 c).before (4 : Fin 8) t0_0 d = wo1V m c := by unfold Dat.before; rw [if_pos (fetch0_4 t0_0)]; rfl
  have b5 (d) : (dats m ρ 0 c).before (5 : Fin 8) t0_0 d = wi2V m c := by unfold Dat.before; rw [if_pos (fetch0_5 t0_0)]; rfl
  have b6 (d) : (dats m ρ 0 c).before (6 : Fin 8) t0_0 d = wo2V m c := by unfold Dat.before; rw [if_pos (fetch0_6 t0_0)]; rfl
  simp only [b0, b1, b2, b3, b4, b5, b6]
  unfold Dat.owesAt Pipeline.owesWithin
  iintro ⟨Hs, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (xV m c) (wi0V m c) (wi1V m c) (wi2V m c) (wo0V m c) (wo1V m c) (wo2V m c) (Pv m) (Rv m)
    rfl rfl rfl rfl rfl (fun _ => bodyPost m ρ c)) $$ [Hs HO H0 H1 H2 H3 H4 H5 H6 H7]
  · isplitl [Hs]; · iexact Hs
    isplitl [HO]; · iexists W; iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    unfold someM; iexists _; iexact H7
  unfold bodyPost Φ₁ Dat.owesAt Pipeline.owesWithin
  iintro ⟨Hs, ⟨%W', HO⟩, Hrest⟩
  isplitl [Hs]; · iexact Hs
  isplitl [HO]
  · iexists W'
    isplitr; · ipureintro; exact fun _ _ => Or.inl trivial
    iexact HO
  iexact Hrest

set_option maxRecDepth 100000 in
/-- The library's body obligation on core `c`. -/
theorem body_obligation (c : Dev nD) : BodyObligation (dats (F := F) m ρ 0 c) (defs₀ (F := F)) 𝒱₀ (0 : ℕ) Set.univ := fun t => by
  rw [show t = t0_0 from fin_N0 t]
  rw [bigSep_W, bigSep_W]
  show bodyPre m ρ c ⊢ wpc c (bodyAt0 (F := F) t0_0) (fun _ => bodyPost m ρ c)
  exact BIBase.Entails.trans (sound_body m ρ c)
    (Entails.of_eq (congrArg (fun e => wpc c e fun _ => bodyPost m ρ c) (body_eq (F := F)).symm))

/-! ## The launch theorem's side conditions -/

theorem ownSemFacts : Pipeline.OwnSemFacts cfg0.spec osem := by decide +kernel

theorem share_eq (c : Dev nD) (w : Fin cfg0.W) : (dats m ρ 0 c).share w = fullShare := by unfold Dat.share; split <;> rfl

theorem lev_intro : levAts L lv ⊢ (Lev : sProp 𝕄) := by unfold Lev; exact .rfl

theorem start_from (c : Dev nD) (A B D : sProp 𝕄) (h : B ⊢ Lev) :
    iprop(A ∗ B ∗ Pipeline.launchCred O₀ c ∗ D ∗ G' (Pv m) (Rv m) c) ⊢ |={Set.univ}=> (iprop(start m c ∗ emp) : sProp 𝕄) := by
  iintro ⟨-, Hlev, Hcr, -, HG⟩
  ihave Hc := (creds_intro (F := F) c) $$ Hcr
  ihave Hl := h $$ Hlev
  imodintro
  unfold start
  isplitl
  · isplitl [HG]; · iexact HG
    isplitl [Hc]; · iexact Hc
    iexact Hl
  · iempintro

/-- What the launch deals a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Pv m) (Rv m) c)
      ⊢ |={Set.univ}=> (iprop(start m c ∗ emp) : sProp 𝕄) :=
  start_from m c _ _ _ lev_intro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_intro c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨⟨Hu, Ho⟩, Hr⟩
  isplitl [Hu]; · iexact Hu
  isplitl [Ho]; · iexact Ho
  iapply (scratch_exit c); iexact Hr

theorem waits (c : Dev nD) : (levAts L lv : sProp 𝕄) ⊢ Pipeline.cellsWaits cfgs (dats m ρ) (0 : ℕ) 0 c := by
  exact lev_intro.trans (Pipeline.cellsWaits_intro cfgs (dats m ρ) (0 : ℕ) 0 c fun w s t =>
    mayWait_of (n := 0) (by decide) (by fin_cases w <;> fin_cases s <;> decide) (by
      rcases t with ⟨_ | _, ht⟩
      · exact above0 c
      · exact Above.zero 0))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On 32 devices, for any float values, from any memory with zero counters: every fair execution of the program ends,
    and at its end each device's arrays hold what `finalA` says and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Pv m) (Rv m)) (G' := G' (Pv m) (Rv m)) (u₀ := u₀)
    (hu₀ := by
      unfold u₀
      iintro Hu
      ihave H := (ownU_pair _ _) $$ Hu
      icases H with ⟨HP, HX⟩
      imod (fund_all (Pv m) (Rv m)) $$ HX with HG
      imodintro
      isplitl [HP] <;> iassumption)
    (hglob := glob (Pv m) (Rv m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MlpProof

end
-- ==== Proof.Frames.lean ====
/-
# The frames

What the run says of each device's arguments and result, and the claims that say the programs run and leave their
arguments as they were.
-/
module

public import proofs.«01_k».proof.Proof.Launch
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.MlpProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## A device's arrays are read whole -/

theorem xV_eq (c : Dev nD) : xV m c = m ((c : Thread nD τ).loc main_arg0) :=
  Memref.read_access_unit_zero (Elt F) main_arg0 (funext fun a => by fin_cases a <;> decide) (fun a => by fin_cases a <;> decide) _
theorem wi0V_eq (c : Dev nD) : wi0V m c = m ((c : Thread nD τ).loc main_arg1) :=
  Memref.read_access_unit_zero (Elt F) main_arg1 (funext fun a => by fin_cases a <;> decide) (fun a => by fin_cases a <;> decide) _
theorem wo0V_eq (c : Dev nD) : wo0V m c = m ((c : Thread nD τ).loc main_arg4) :=
  Memref.read_access_unit_zero (Elt F) main_arg4 (funext fun a => by fin_cases a <;> decide) (fun a => by fin_cases a <;> decide) _
theorem wi1V_eq (c : Dev nD) : wi1V m c = m ((c : Thread nD τ).loc main_arg2) :=
  Memref.read_access_unit_zero (Elt F) main_arg2 (funext fun a => by fin_cases a <;> decide) (fun a => by fin_cases a <;> decide) _
theorem wo1V_eq (c : Dev nD) : wo1V m c = m ((c : Thread nD τ).loc main_arg5) :=
  Memref.read_access_unit_zero (Elt F) main_arg5 (funext fun a => by fin_cases a <;> decide) (fun a => by fin_cases a <;> decide) _
theorem wi2V_eq (c : Dev nD) : wi2V m c = m ((c : Thread nD τ).loc main_arg3) :=
  Memref.read_access_unit_zero (Elt F) main_arg3 (funext fun a => by fin_cases a <;> decide) (fun a => by fin_cases a <;> decide) _
theorem wo2V_eq (c : Dev nD) : wo2V m c = m ((c : Thread nD τ).loc main_arg6) :=
  Memref.read_access_unit_zero (Elt F) main_arg6 (funext fun a => by fin_cases a <;> decide) (fun a => by fin_cases a <;> decide) _

/-- A window that is not written back ends as it was. -/
theorem in_kept {r : PUnit × MemSt nD τ sig (Elt F)} (h : QC m ρ r) (c : Dev nD) (w : Fin 8) (hw : (cfg0.win w).isOut = false) :
    r.2.mem ((cfg0.win w).arr.view.loc (c : Thread nD τ)) = m ((cfg0.win w).arr.view.loc (c : Thread nD τ)) :=
  (h c w).trans ((dats (F := F) m ρ 0 c).arrAt_in w hw _)

/-- Every device's arguments end as they were. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  have k := in_kept m ρ h c
  ⟨k 0 rfl, k 1 rfl, k 3 rfl, k 5 rfl, k 2 rfl, k 4 rfl, k 6 rfl⟩

/-- Every device's result ends at the sum it formed in the last layer. -/
theorem result_eq {r : PUnit × MemSt nD τ sig (Elt F)} (h : QC m ρ r) (c : Dev nD) :
    r.2.mem ((c : Thread nD τ).loc main_v1) = outV m c := by
  have ho : (win0_7.blk (0 : Fin 1)).view.read (Elt F) (finalA m ρ c (7 : Fin 8)) = outV m c := by
    unfold finalA
    rw [show cfg0.N = ((0 : Fin 1) : Fin cfg0.N).val + 1 from rfl, (dats m ρ 0 c).arrAt_succ (7 : Fin 8) (0 : Fin 1)]
    rw [show (cfg0.win (7 : Fin 8)).flush (0 : Fin 1) = true from flush0_7 _, if_pos rfl]
    exact View.read_write_univ _ _
  have hr (f : Buf (Elt F) ((c : Thread nD τ).loc main_v1)) : (win0_7.blk (0 : Fin 1)).view.read (Elt F) f = f :=
    Memref.read_access_unit_zero (Elt F) main_v1 (funext fun a => by fin_cases a <;> decide) (fun a => by fin_cases a <;> decide) f
  exact (h c (7 : Fin 8)).trans ((hr _).symm.trans ho)

/-! ## The claims -/

/-- The kernel, at any float values: it runs, its arguments end as they were and every semaphore is at zero. -/
theorem frame_run : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run defs _ _).mono (fun _ h => ⟨fun c => args_kept m ρ h.1 c, h.2⟩) (run_main m ρ)

/-- The printed kernel and its idealization have one text. -/
theorem defs_same : (Cert.Kernel.defs (F := F) : Defs nD τ sig (Elt F) (Pipeline.Sig Λ₀ (Fin 1) fun p => (pcfgs (F := F) p).Adm)) = defs := by
  chain_rfl

/-- The frame of the kernel as printed, at machine floats. -/
theorem frame_kernel : Cert.quiescent_Kernel := fun m ρ _ => by
  have h := frame_run (F := Bits) m ρ
  rw [← defs_same] at h
  exact h

/-- The frame of the kernel over the reals. -/
theorem frame_kernelIdeal : Cert.quiescent_KernelIdeal := fun m ρ _ => frame_run (F := Ideal) m ρ

/-- The frame of the reference over the reals. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.MlpProof

end
-- ==== Proof.Values.lean ====
/-
# What the kernel computes, over the reals

Each device's partial product is the layer on its own slice of the weights, the sum a device forms runs over all 32
devices, and the 32 slices together are the whole weights. So the rows a device keeps are its rows of the layer on
the whole arrays; three layers give the network.
-/
module

public import proofs.«01_k».proof.Proof.Frames
public import Idealize.ShloMosaic.Lib.Pointwise
public import Idealize.ShloMosaic.Lib.ValueIdx
public import Idealize.ShloMosaic.Lib.Layout

@[expose] public section

noncomputable section

namespace Cert.MlpProof

open Cert.KernelIdeal Cert.KernelIdeal.Gen
open Idealize.ShloMosaic Idealize.ShloMosaic.TcCoe

/-! ## One layer -/

/-- Entry `(r, k)` of a layer with `H` hidden units: the input's row `r` times the first weights, negative entries
    replaced by zero, times column `k` of the second weights. -/
def mlpAt {H : ℕ} (x : S64x1024.Idx → EReal) (wi : (⟨2, ![1024, H]⟩ : Shape).Idx → EReal)
    (wo : (⟨2, ![H, 1024]⟩ : Shape).Idx → EReal) (r : Fin 64) (k : Fin 1024) : EReal :=
  ∑ h : Fin H, max (∑ j : Fin 1024, x (ix2 r j) * wi (ix2 j h)) 0 * wo (ix2 h k)

/-- The layer on whole arrays. -/
def mlp (x : S64x1024.Idx → EReal) (wi : (⟨2, ![1024, 65536]⟩ : Shape).Idx → EReal)
    (wo : (⟨2, ![65536, 1024]⟩ : Shape).Idx → EReal) : S64x1024.Idx → EReal := fun i => mlpAt x wi wo (i 0) (i 1)

/-- The hidden units in 32 slices of 2048: the layers on the slices add up to the layer. -/
theorem mlpAt_slices (x : S64x1024.Idx → EReal) (wi : (⟨2, ![1024, 65536]⟩ : Shape).Idx → EReal)
    (wo : (⟨2, ![65536, 1024]⟩ : Shape).Idx → EReal) (r : Fin 64) (k : Fin 1024) :
    ∑ d : Fin 32, mlpAt x (Layout.block ⟨2, ![1024, 2048]⟩ ⟨2, ![1024, 65536]⟩ 1 32 d wi)
        (Layout.block ⟨2, ![2048, 1024]⟩ ⟨2, ![65536, 1024]⟩ 0 32 d wo) r k
      = mlpAt x wi wo r k := by
  unfold mlpAt
  rw [← Fintype.sum_prod_type', ← Equiv.sum_comp (finProdFinEquiv (m := 32) (n := 2048))]
  refine Finset.sum_congr rfl fun p _ => ?_
  have hp : (finProdFinEquiv p : Fin (32 * 2048)).val = p.1.val * 2048 + p.2.val := by
    rw [finProdFinEquiv_apply_val]; omega
  have hi (j : Fin 1024) : (by decide : Layout.Tiles ⟨2, ![1024, 2048]⟩ ⟨2, ![1024, 65536]⟩ 1 32).idx p.1 (ix2 j p.2)
      = ix2 j (finProdFinEquiv p : Fin (32 * 2048)) := by
    funext a; apply Fin.ext; fin_cases a
    · rfl
    · exact hp.symm
  have ho : (by decide : Layout.Tiles ⟨2, ![2048, 1024]⟩ ⟨2, ![65536, 1024]⟩ 0 32).idx p.1 (ix2 p.2 k)
      = ix2 (finProdFinEquiv p : Fin (32 * 2048)) k := by
    funext a; apply Fin.ext; fin_cases a
    · exact hp.symm
    · rfl
  simp only [Layout.block_apply, hi, ho]

/-- The reference's layer. -/
theorem ref_layer (x : FVec Ideal S64x1024 .f32) (wi : FVec Ideal Cert.ReferenceIdeal.S1024x65536 .f32)
    (wo : FVec Ideal Cert.ReferenceIdeal.S65536x1024 .f32) :
    Host.dotGeneral (F := Ideal) Cert.ReferenceIdeal.dot_S64x65536_S65536x1024_S64x1024_1_0_0_1_n_n none
        (maximumf (Host.dotGeneral (F := Ideal) Cert.ReferenceIdeal.dot_S64x1024_S1024x65536_S64x65536_1_0_0_1_n_n none x wi)
          (broadcastInDim Cert.ReferenceIdeal.S64x65536 ![] Cert.ReferenceIdeal.Gen.bcast_S_S64x65536 (constant Cert.ReferenceIdeal.S_ .f32 0x00000000#32))) wo
      = mlp x wi wo := by
  funext i
  simp only [pointwise, mlp, mlpAt, zero_add]

/-- A device's partial product in the first layer. -/
theorem pay1_apply (x : FVec Ideal S64x1024 .f32) (wi : FVec Ideal S1024x2048 .f32) (wo : FVec Ideal S2048x1024 .f32)
    (i : S64x1024.Idx) : k0_pay1 (F := Ideal) x wi wo i = mlpAt x wi wo (i 0) (i 1) := by
  unfold k0_pay1
  simp only [pointwise, mlpAt, zero_add]

/-- A device's partial product in a later layer. -/
theorem partOf_apply (x : FVec Ideal S64x1024 .bf16) (wi : FVec Ideal S1024x2048 .f32) (wo : FVec Ideal S2048x1024 .f32)
    (i : S64x1024.Idx) : partOf (F := Ideal) x wi wo i = mlpAt x wi wo (i 0) (i 1) := by
  unfold partOf k0_pay17 k0_pay16
  simp only [pointwise, mlpAt, zero_add]

/-! ## The sum over the devices -/

/-- The devices `j + 1` places behind `c`, over all 31 offsets, and `c` itself are all the devices. -/
theorem sum_ring (c : Dev nD) (f : Dev nD → EReal) : f c + ∑ j : Fin 31, f (nb c (rev j)) = ∑ d : Dev nD, f d := by
  have hn : (Finset.univ : Finset (Dev nD)) = insert c (Finset.univ.image fun j => nb c (rev j)) := by
    revert c; decide +kernel
  have hc : c ∉ Finset.univ.image fun j => nb c (rev j) := by revert c; decide +kernel
  have hi : Function.Injective fun j => nb c (rev j) := by
    intro a b h; have := congrArg (fun d : Dev nD => d.val) h
    have ha := a.isLt; have hb := b.isLt; have hc : c.val < 32 := c.isLt
    apply Fin.ext
    simp only [nb, rev] at this; omega
  rw [hn, Finset.sum_insert hc, Finset.sum_image fun a _ b _ h => hi h]

/-- Adding a list of values one after the other. -/
theorem foldl_addf {s : Shape} {φ : FTy} (l : List (Fin 31)) (a : FVec Ideal s φ) (f : Fin 31 → FVec Ideal s φ) (i : s.Idx) :
    l.foldl (fun acc j => addf acc (f j)) a i = a i + (l.map fun j => f j i).sum := by
  induction l generalizing a with
  | nil => simp
  | cons j l ih => rw [List.foldl_cons, ih, List.map_cons, List.sum_cons, ValueIdx.addf_apply, add_assoc]

/-- Where row `i` of device `c`'s two rows is among the 64. -/
def rowIx (c : Dev nD) (i : S2x1024.Idx) : S64x1024.Idx := (rowR c).emb i

/-- A device's sum is over all the devices. -/
theorem accF_apply (p : Dev nD → Full Ideal) (c : Dev nD) (i : S2x1024.Idx) :
    accF (F := Ideal) p c i = ∑ d : Dev nD, p d (rowIx c i) := by
  unfold accF accS
  rw [foldl_addf, ← List.sum_toFinset _ offs_nodup, offs_all, ← sum_ring c]
  rfl

/-- The rows gathered from the devices' sums of `p`: the sum of `p` over all the devices. -/
theorem gathered (p : Dev nD → Full Ideal) : xOf (F := Ideal) (fun d => redVal (accF (F := Ideal) p d)) = fun i => ∑ d : Dev nD, p d i := by
  have key (b : Dev nD) (j : S2x1024.Idx) : xOf (F := Ideal) (fun d => redVal (accF (F := Ideal) p d)) (rowIx b j) = ∑ d : Dev nD, p d (rowIx b j) := by
    refine (congrFun (xOf_row (fun d => redVal (accF (F := Ideal) p d)) b) j).trans ?_
    unfold redVal
    simp only [pointwise]
    exact accF_apply p b j
  funext i
  have hi : (i 0).val < 64 := (i 0).isLt
  have e : i = rowIx ⟨(i 0).val / 2, by show _ < 32; omega⟩ (ix2 ⟨(i 0).val % 2, Nat.mod_lt _ (by decide)⟩ (i 1)) := by
    funext a; apply Fin.ext; fin_cases a
    · show (i 0).val = 2 * ((i 0).val / 2) + 1 * ((i 0).val % 2); omega
    · show (i 1).val = 0 + 1 * (i 1).val; omega
  rw [e]; exact key _ _

/-! ## Three layers -/

section
variable (m : (ℓ : Loc nD τ sig) → Buf (Elt Ideal) ℓ)
variable (X : S64x1024.Idx → EReal)
variable (a1 a2 a3 : (⟨2, ![1024, 65536]⟩ : Shape).Idx → EReal) (b1 b2 b3 : (⟨2, ![65536, 1024]⟩ : Shape).Idx → EReal)

/-- The devices' partial products of a layer add up to the layer, when each is the layer on the device's slice. -/
theorem sum_layer (p : Dev nD → Full Ideal) (x : S64x1024.Idx → EReal) (a : (⟨2, ![1024, 65536]⟩ : Shape).Idx → EReal)
    (b : (⟨2, ![65536, 1024]⟩ : Shape).Idx → EReal)
    (hp : ∀ d i, p d i = mlpAt x (Layout.block ⟨2, ![1024, 2048]⟩ ⟨2, ![1024, 65536]⟩ 1 32 d a)
      (Layout.block ⟨2, ![2048, 1024]⟩ ⟨2, ![65536, 1024]⟩ 0 32 d b) (i 0) (i 1)) (i : S64x1024.Idx) :
    ∑ d : Dev nD, p d i = mlp x a b i :=
  (Finset.sum_congr rfl fun d _ => hp d i).trans (mlpAt_slices x a b (i 0) (i 1))

/-- Every device's result is its two rows of the network's value. -/
theorem outV_value (hx : ∀ c, xV m c = X)
    (h1 : ∀ c, wi0V m c = Layout.block ⟨2, ![1024, 2048]⟩ ⟨2, ![1024, 65536]⟩ 1 32 c a1)
    (h2 : ∀ c, wi1V m c = Layout.block ⟨2, ![1024, 2048]⟩ ⟨2, ![1024, 65536]⟩ 1 32 c a2)
    (h3 : ∀ c, wi2V m c = Layout.block ⟨2, ![1024, 2048]⟩ ⟨2, ![1024, 65536]⟩ 1 32 c a3)
    (h4 : ∀ c, wo0V m c = Layout.block ⟨2, ![2048, 1024]⟩ ⟨2, ![65536, 1024]⟩ 0 32 c b1)
    (h5 : ∀ c, wo1V m c = Layout.block ⟨2, ![2048, 1024]⟩ ⟨2, ![65536, 1024]⟩ 0 32 c b2)
    (h6 : ∀ c, wo2V m c = Layout.block ⟨2, ![2048, 1024]⟩ ⟨2, ![65536, 1024]⟩ 0 32 c b3) (c : Dev nD) :
    outV m c = Layout.block ⟨2, ![2, 1024]⟩ ⟨2, ![64, 1024]⟩ 0 32 c (mlp (mlp (mlp X a1 b1) a2 b2) a3 b3) := by
  have s0 : ∀ i, ∑ d : Dev nD, Pv m 0 d i = mlp X a1 b1 i := sum_layer _ _ _ _ fun d i => by
    rw [← h1, ← h4, ← hx d]; exact pay1_apply _ _ _ _
  have step (r : ℕ) (x : S64x1024.Idx → EReal) (a : (⟨2, ![1024, 65536]⟩ : Shape).Idx → EReal)
      (b : (⟨2, ![65536, 1024]⟩ : Shape).Idx → EReal) (s : ∀ i, ∑ d : Dev nD, Pv m r d i = x i)
      (ha : ∀ c, wiV m r c = Layout.block ⟨2, ![1024, 2048]⟩ ⟨2, ![1024, 65536]⟩ 1 32 c a)
      (hb : ∀ c, woV m r c = Layout.block ⟨2, ![2048, 1024]⟩ ⟨2, ![65536, 1024]⟩ 0 32 c b) :
      ∀ i, ∑ d : Dev nD, Pv m (r + 1) d i = mlp x a b i := sum_layer _ _ _ _ fun d i => by
    rw [← ha, ← hb, ← show _ = x from funext s, ← gathered]; exact partOf_apply _ _ _ _
  have s2 := step 1 _ a3 b3 (step 0 _ a2 b2 s0 h2 h5) h3 h6
  funext i
  unfold outV
  rw [accF_apply, s2, Layout.block_apply]
  congr 1
  funext a; apply Fin.ext; fin_cases a
  · show 2 * c.val + 1 * (i 0).val = c.val * 2 + (i 0).val; omega
  · show 0 + 1 * (i 1).val = (i 1).val; omega

end

end Cert.MlpProof

end
-- ==== Proof.Algebraic.lean ====
/-
# The value claim

Over the reals, from memories in which each device holds the input and its slices of the weights, every device ends
with its two rows of what the reference computes from the whole arrays.
-/
module

public import proofs.«01_k».proof.Proof.Values

@[expose] public section

noncomputable section

namespace Cert.MlpProof

open Cert.KernelIdeal Cert.KernelIdeal.Gen
open Idealize.ShloMosaic Idealize.ShloMosaic.TcCoe Idealize.SL.Sem

/-- Every device's result is its two rows of the reference's result, and both programs leave their arguments alone. -/
theorem algebraic : Cert.algebraic_KernelIdeal_ReferenceIdeal := fun m g m' g' _ hm =>
  ⟨_,
    (θ_run defs _ _).mono (fun r h c => ⟨(result_eq m g h.1 c).trans (outV_value m _ _ _ _ _ _ _
        (fun c => (xV_eq m c).trans (hm c).1)
        (fun c => (wi0V_eq m c).trans (hm c).2.1)
        (fun c => (wi1V_eq m c).trans (hm c).2.2.1)
        (fun c => (wi2V_eq m c).trans (hm c).2.2.2.1)
        (fun c => (wo0V_eq m c).trans (hm c).2.2.2.2.1)
        (fun c => (wo1V_eq m c).trans (hm c).2.2.2.2.2.1)
        (fun c => (wo2V_eq m c).trans (hm c).2.2.2.2.2.2) c), args_kept m g h.1 c⟩) (run_main (F := Ideal) m g),
    (θ_run Cert.ReferenceIdeal.defs _ _).mono (fun r h => ⟨(h 0).1.trans (by rw [ref_layer, ref_layer, ref_layer]), (h 0).2⟩)
      (Cert.ReferenceIdeal.Value.run (F := Ideal) m' g')⟩

end Cert.MlpProof

end
-- ==== Proof.lean ====
/-
# The claim

The three frames, that the idealized kernel is the kernel's own text, and the value claim, put together.
-/
module

public import proofs.«01_k».proof.Proof.Gen.ReferenceIdeal.Run
public import proofs.«01_k».proof.Proof.Frames
public import proofs.«01_k».proof.Proof.Algebraic
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MlpProof.frame_kernel, Cert.MlpProof.frame_kernelIdeal, Cert.MlpProof.frame_reference, trivial,
  Cert.MlpProof.algebraic⟩

end Cert.Proof

end
